-- ==== Defs.lean ====
def Pre_Kernel [hPre_row_holds_token : Cert.Pre_row_holds_token.Facts] (m : (ℓ : Loc Cert.Kernel.nD Cert.Kernel.τ Cert.Kernel.sig) → Buf (Elt Bits) ℓ) : Prop :=
  ∀ c : Dev Cert.Kernel.nD,
    (Cert.Pre_row_holds_token.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_row_holds_token : Cert.Pre_row_holds_token.Facts] (m : (ℓ : Loc Cert.KernelIdeal.nD Cert.KernelIdeal.τ Cert.KernelIdeal.sig) → Buf (Elt Ideal) ℓ) : Prop :=
  ∀ c : Dev Cert.KernelIdeal.nD,
    (Cert.Pre_row_holds_token.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_row_holds_token [hPre_row_holds_token : Cert.Pre_row_holds_token.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_row_holds_token.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_row_holds_token : Cert.Pre_row_holds_token.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_row_holds_token : Cert.Pre_row_holds_token.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_row_holds_token [hReferenceIdeal : Cert.ReferenceIdeal.Facts] [hPre_row_holds_token : Cert.Pre_row_holds_token.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_row_holds_token m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_row_holds_token : Cert.Pre_row_holds_token.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_row_holds_token : Cert.Pre_row_holds_token.Facts),
    quiescent_Kernel (hKernel := hKernel) (hPre_row_holds_token := hPre_row_holds_token)
    ∧ quiescent_KernelIdeal (hKernelIdeal := hKernelIdeal) (hPre_row_holds_token := hPre_row_holds_token)
    ∧ quiescent_ReferenceIdeal (hReferenceIdeal := hReferenceIdeal)
    ∧ quiescent_ReferenceIdeal_pre_row_holds_token (hReferenceIdeal := hReferenceIdeal) (hPre_row_holds_token := hPre_row_holds_token)
    ∧ preserves_Kernel_KernelIdeal
    ∧ algebraic_KernelIdeal_ReferenceIdeal (hKernelIdeal := hKernelIdeal) (hReferenceIdeal := hReferenceIdeal) (hPre_row_holds_token := hPre_row_holds_token)
-- ==== Pre_row_holds_token.lean ====
abbrev S16x4096x1024 : Shape := ⟨3, ![16, 4096, 1024]⟩
abbrev S16x4096 : Shape := ⟨2, ![16, 4096]⟩
abbrev S_ : Shape := ⟨0, ![]⟩
abbrev S16 : Shape := ⟨1, ![16]⟩

class Facts : Prop where
  reducesTo_S16x4096_S16_d1 : S16x4096.ReducesTo [1] S16
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S16x4096x1024 .f32) (main_arg1 : IVec S16x4096 32) : IVec S_ 1 :=
  let main_c : IVec S_ 32 := constantI S_ 32 0#32
  let main_v0 : IVec S16 32 := (fun x v => Host.reduce IntOp.addi x v reducesTo_S16x4096_S16_d1 h_S_) main_arg1 main_c
  let main_c_0 : IVec S_ 32 := constantI S_ 32 1#32
  let main_v1 : IVec S16 32 := broadcastInDim S16 ![] bcast_S_S16 main_c_0
  let main_v2 : IVec S16 1 := cmpi .sge main_v0 main_v1
  let main_c_1 : IVec S_ 32 := constantI S_ 32 4096#32
  let main_v3 : IVec S16 32 := broadcastInDim S16 ![] bcast_S_S16 main_c_1
  let main_v4 : IVec S16 1 := cmpi .sle main_v0 main_v3
  let main_v5 : IVec S16 1 := andi main_v2 main_v4
  let main_c_2 : IVec S_ 1 := constantI S_ 1 1#1
  let main_v6 : IVec S_ 1 := (fun x v => Host.reduce IntOp.andi x v reducesTo_S16_S_d0 h_S_) main_v5 main_c_2
  main_v6
-- ==== Kernel.lean ====
abbrev S16x4096x1024 : Shape := ⟨3, ![16, 4096, 1024]⟩
abbrev S16x4096 : Shape := ⟨2, ![16, 4096]⟩
abbrev S65536x1024 : Shape := ⟨2, ![65536, 1024]⟩
abbrev S16x1024 : Shape := ⟨2, ![16, 1024]⟩
abbrev S4096 : Shape := ⟨1, ![4096]⟩
abbrev S1x1024 : Shape := ⟨2, ![1, 1024]⟩
abbrev S_ : Shape := ⟨0, ![]⟩
abbrev S2048 : Shape := ⟨1, ![2048]⟩
abbrev S1x2048 : Shape := ⟨2, ![1, 2048]⟩
abbrev S16 : Shape := ⟨1, ![16]⟩
abbrev S1 : Shape := ⟨1, ![1]⟩

abbrev nBuf : Table → Nat
  | .hbm => 4
  | .local .scVector .vmem => 2
  | _ => 0

abbrev bufTy : (tb : Table) → Fin (nBuf tb) → BufTy
  | .hbm, ⟨0, _⟩ => ⟨S16x4096x1024, .f32⟩
  | .hbm, ⟨1, _⟩ => ⟨S16x4096, .i32⟩
  | .hbm, ⟨2, _⟩ => ⟨S65536x1024, .f32⟩
  | .hbm, ⟨3, _⟩ => ⟨S16x1024, .f32⟩
  | .local .scVector .vmem, ⟨0, _⟩ => ⟨S4096, .i32⟩
  | .local .scVector .vmem, ⟨1, _⟩ => ⟨S1x1024, .f32⟩
  | _, _ => ⟨S16x4096x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 2 → Nat :=
  let arg1 : BitVec 32 := BitVec.ofNat 32 (i 1).val
  let c0_i32_0 : BitVec 32 := 0#32
  ![arg1.toNat, 0]
def k0_off2 (i : grid0.Coords) : Fin 2 → Nat :=
  let arg1 : BitVec 32 := BitVec.ofNat 32 (i 1).val
  let c2048_i32_3 : BitVec 32 := 2048#32
  ![arg1.toNat, 2048]
@[reducible] def k0_t1_loop : Scf.Loop 32 :=
  let c0_i32_18 : BitVec 32 := 0#32
  let c16_i32 : BitVec 32 := 16#32
  let v26 : BitVec 32 := Scalar.addi c0_i32_18 c16_i32
  let c1_i32 : BitVec 32 := 1#32
  ⟨c0_i32_18, v26, c1_i32⟩
def k0_off3 (k0_t1 : Fin k0_t1_loop.trips) (c0_i32_31 : BitVec 32) : Fin 1 → Nat :=
  let c0_i32_30 : BitVec 32 := 0#32
  let c0_i32_18 : BitVec 32 := 0#32
  let c1_i32 : BitVec 32 := 1#32
  let arg9 : BitVec 32 := Scf.iv c0_i32_18 c1_i32 k0_t1
  let c1_i32_29 : BitVec 32 := 1#32
  let v93 : BitVec 32 := Scalar.muli arg9 c1_i32_29
  let v94 : BitVec 32 := Scalar.addi c0_i32_30 v93
  let c8_i32 : BitVec 32 := 8#32
  let v95 : BitVec 32 := Scalar.muli v94 c8_i32
  let v96 : BitVec 32 := Scalar.addi v95 c0_i32_31
  let c16_i32_32 : BitVec 32 := 16#32
  let v97 : BitVec 32 := Scalar.muli v96 c16_i32_32
  let v98 : Index := Scalar.indexCast v97
  ![v98.toNat]
@[reducible] def k0_t2_loop : Scf.Loop 32 :=
  let c0_i32_24 : BitVec 32 := 0#32
  let c16_i32_25 : BitVec 32 := 16#32
  let v34 : BitVec 32 := Scalar.addi c0_i32_24 c16_i32_25
  let c1_i32_26 : BitVec 32 := 1#32
  ⟨c0_i32_24, v34, c1_i32_26⟩
def k0_off4 (k0_t2 : Fin k0_t2_loop.trips) (c0_i32_31 : BitVec 32) : Fin 1 → Nat :=
  let c2048_i32_33 : BitVec 32 := 2048#32
  let c0_i32_30 : BitVec 32 := 0#32
  let c0_i32_24 : BitVec 32 := 0#32
  let c1_i32_26 : BitVec 32 := 1#32
  let arg9 : BitVec 32 := Scf.iv c0_i32_24 c1_i32_26 k0_t2
  let c1_i32_29 : BitVec 32 := 1#32
  let v93 : BitVec 32 := Scalar.muli arg9 c1_i32_29
  let v94 : BitVec 32 := Scalar.addi c0_i32_30 v93
  let c8_i32 : BitVec 32 := 8#32
  let v95 : BitVec 32 := Scalar.muli v94 c8_i32
  let v96 : BitVec 32 := Scalar.addi v95 c0_i32_31
  let c16_i32_32 : BitVec 32 := 16#32
  let v97 : BitVec 32 := Scalar.muli v96 c16_i32_32
  let v98 : BitVec 32 := Scalar.addi c2048_i32_33 v97
  let v99 : Index := Scalar.indexCast v98
  ![v99.toNat]
def k0_off5 (i : grid0.Coords) (v44 : BitVec 32) (v46 : BitVec 32) (v49 : BitVec 32) (v52 : BitVec 32) (v55 : BitVec 32) (v58 : BitVec 32) (v61 : BitVec 32) (v64 : BitVec 32) (v67 : BitVec 32) (v70 : BitVec 32) (v73 : BitVec 32) (v76 : BitVec 32) (v79 : BitVec 32) (v82 : BitVec 32) (v85 : BitVec 32) (v88 : BitVec 32) : Fin 2 → Nat :=
  let arg1 : BitVec 32 := BitVec.ofNat 32 (i 1).val
  let c4096_i32 : BitVec 32 := 4096#32
  let v90 : BitVec 32 := Scalar.muli arg1 c4096_i32
  let v47 : BitVec 32 := Scalar.addi v44 v46
  let v50 : BitVec 32 := Scalar.addi v47 v49
  let v53 : BitVec 32 := Scalar.addi v50 v52
  let v56 : BitVec 32 := Scalar.addi v53 v55
  let v59 : BitVec 32 := Scalar.addi v56 v58
  let v62 : BitVec 32 := Scalar.addi v59 v61
  let v65 : BitVec 32 := Scalar.addi v62 v64
  let v68 : BitVec 32 := Scalar.addi v65 v67
  let v71 : BitVec 32 := Scalar.addi v68 v70
  let v74 : BitVec 32 := Scalar.addi v71 v73
  let v77 : BitVec 32 := Scalar.addi v74 v76
  let v80 : BitVec 32 := Scalar.addi v77 v79
  let v83 : BitVec 32 := Scalar.addi v80 v82
  let v86 : BitVec 32 := Scalar.addi v83 v85
  let v89 : BitVec 32 := Scalar.addi v86 v88
  let v91 : BitVec 32 := Scalar.addi v90 v89
  let c1_i32_28 : BitVec 32 := 1#32
  let v92 : BitVec 32 := Scalar.subi v91 c1_i32_28
  let c0_i32_29_r0 : BitVec 32 := 0#32
  ![v92.toNat, 0]

def k0_chk1 (i : grid0.Coords) (v44 : BitVec 32) (v46 : BitVec 32) (v49 : BitVec 32) (v52 : BitVec 32) (v55 : BitVec 32) (v58 : BitVec 32) (v61 : BitVec 32) (v64 : BitVec 32) (v67 : BitVec 32) (v70 : BitVec 32) (v73 : BitVec 32) (v76 : BitVec 32) (v79 : BitVec 32) (v82 : BitVec 32) (v85 : BitVec 32) (v88 : BitVec 32) : Prop :=
  (∀ a, (k0_off5 i v44 v46 v49 v52 v55 v58 v61 v64 v67 v70 v73 v76 v79 v82 v85 v88) a + S1x1024.size a ≤ S65536x1024.size a)
theorem k0_off5_inb : ∀ (i : grid0.Coords) (v44 : BitVec 32) (v46 : BitVec 32) (v49 : BitVec 32) (v52 : BitVec 32) (v55 : BitVec 32) (v58 : BitVec 32) (v61 : BitVec 32) (v64 : BitVec 32) (v67 : BitVec 32) (v70 : BitVec 32) (v73 : BitVec 32) (v76 : BitVec 32) (v79 : BitVec 32) (v82 : BitVec 32) (v85 : BitVec 32) (v88 : BitVec 32) (k0_hw1 : k0_chk1 i v44 v46 v49 v52 v55 v58 v61 v64 v67 v70 v73 v76 v79 v82 v85 v88), ∀ a, (k0_off5 i v44 v46 v49 v52 v55 v58 v61 v64 v67 v70 v73 v76 v79 v82 v85 v88) a + S1x1024.size a ≤ S65536x1024.size a := fun i v44 v46 v49 v52 v55 v58 v61 v64 v67 v70 v73 v76 v79 v82 v85 v88 k0_hw1 => k0_hw1

def k0_off6 (i : grid0.Coords) : Fin 2 → Nat :=
  let arg1 : BitVec 32 := BitVec.ofNat 32 (i 1).val
  let c0_i32_29_r1 : BitVec 32 := 0#32
  ![arg1.toNat, 0]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x4096x1024 : Shape := ⟨3, ![16, 4096, 1024]⟩
abbrev S16x4096 : Shape := ⟨2, ![16, 4096]⟩
abbrev S_ : Shape := ⟨0, ![]⟩
abbrev S16 : Shape := ⟨1, ![16]⟩
abbrev S16x1 : Shape := ⟨2, ![16, 1]⟩
abbrev S16x2 : Shape := ⟨2, ![16, 2]⟩
abbrev S16x1024 : Shape := ⟨2, ![16, 1024]⟩

abbrev nBuf : Space → Nat
  | .hbm => 26
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096, .i32⟩
  | .hbm, ⟨2, _⟩ => ⟨S_, .i32⟩
  | .hbm, ⟨3, _⟩ => ⟨S16, .i32⟩
  | .hbm, ⟨4, _⟩ => ⟨S_, .i32⟩
  | .hbm, ⟨5, _⟩ => ⟨S16, .i32⟩
  | .hbm, ⟨6, _⟩ => ⟨S16, .i32⟩
  | .hbm, ⟨7, _⟩ => ⟨S16, .i32⟩
  | .hbm, ⟨8, _⟩ => ⟨S_, .i32⟩
  | .hbm, ⟨9, _⟩ => ⟨S16, .i32⟩
  | .hbm, ⟨10, _⟩ => ⟨S16, .i1⟩
  | .hbm, ⟨11, _⟩ => ⟨S_, .i32⟩
  | .hbm, ⟨12, _⟩ => ⟨S16, .i32⟩
  | .hbm, ⟨13, _⟩ => ⟨S16, .i32⟩
  | .hbm, ⟨14, _⟩ => ⟨S16, .i32⟩
  | .hbm, ⟨15, _⟩ => ⟨S_, .i32⟩
  | .hbm, ⟨16, _⟩ => ⟨S16, .i32⟩
  | .hbm, ⟨17, _⟩ => ⟨S16, .i1⟩
  | .hbm, ⟨18, _⟩ => ⟨S_, .i32⟩
  | .hbm, ⟨19, _⟩ => ⟨S16, .i32⟩
  | .hbm, ⟨20, _⟩ => ⟨S16, .i32⟩
  | .hbm, ⟨21, _⟩ => ⟨S16, .i32⟩
  | .hbm, ⟨22, _⟩ => ⟨S16x1, .i32⟩
  | .hbm, ⟨23, _⟩ => ⟨S16x1, .i32⟩
  | .hbm, ⟨24, _⟩ => ⟨S16x2, .i32⟩
  | .hbm, ⟨25, _⟩ => ⟨S16x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_1 : Ref sig .tc := ⟨.hbm, 8, rfl⟩
abbrev main_v4 : Ref sig .tc := ⟨.hbm, 9, rfl⟩
abbrev main_v5 : Ref sig .tc := ⟨.hbm, 10, rfl⟩
abbrev main_c_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_3 : Ref sig .tc := ⟨.hbm, 15, rfl⟩
abbrev main_v9 : Ref sig .tc := ⟨.hbm, 16, rfl⟩
abbrev main_v10 : Ref sig .tc := ⟨.hbm, 17, rfl⟩
abbrev main_c_4 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Proof.Sums.lean ====
/-
  Sums of 32-bit words, as the kernel forms them. A row of 4096 words is read in sixteen-word pieces: eight running sums
  of sixteen lanes each take the pieces in turn, thirty-two pieces to a sum, and at the end the eight sums and then the
  sixteen lanes are added up. Addition of words modulo 2³² commutes and associates, so the order does not show: what
  comes out is the sum of the whole row (`sum_lanes`).
-/
module

public import Idealize.ShloMosaic.Lib.ValueIdx
public import Mathlib.Data.BitVec
public import Mathlib.Algebra.BigOperators.Intervals

@[expose] public section

namespace Cert.Proof.Sums

open Idealize.ShloMosaic
open Idealize.ShloMosaic.ValueIdx (ix1)
open Finset (range)

/-- Sixteen 32-bit words: one vector register of the subcore. -/
abbrev Lanes : Type := (⟨1, ![16]⟩ : Shape).Idx → BitVec 32

/-- The sixteen words of `g` from position `n`. -/
def piece (g : ℕ → BitVec 32) (n : ℕ) : Lanes := fun l => g (n + (l 0).val)

/-- Running sum number `r` after `n` trips: lane by lane, the pieces at positions `128 t + 16 r` for `t < n`. -/
def runSum (g : ℕ → BitVec 32) (r n : ℕ) : Lanes := fun l => ∑ t ∈ range n, piece g (128 * t + 16 * r) l

/-- Before the first trip a running sum is zero. -/
theorem runSum_zero (g : ℕ → BitVec 32) (r : ℕ) : runSum g r 0 = fun _ => 0 := rfl

/-- A trip adds its piece. -/
theorem runSum_succ (g : ℕ → BitVec 32) (r n : ℕ) (l : (⟨1, ![16]⟩ : Shape).Idx) :
    runSum g r (n + 1) l = runSum g r n l + piece g (128 * n + 16 * r) l := Finset.sum_range_succ _ _

/-- A sum over `a · b` positions, `b` at a time. -/
theorem sum_range_blocks {M : Type} [AddCommMonoid M] (g : ℕ → M) (a b : ℕ) :
    ∑ i ∈ range (a * b), g i = ∑ x ∈ range a, ∑ y ∈ range b, g (b * x + y) := by
  induction a with
  | zero => simp
  | succ a ih =>
    rw [Nat.succ_mul, Finset.sum_range_add, ih, Finset.sum_range_succ, Nat.mul_comm a b]

/-- The eight running sums after all thirty-two trips, added over sums and lanes, are the sum of the row. -/
theorem sum_lanes (g : ℕ → BitVec 32) :
    ∑ l : Fin 16, ∑ r ∈ range 8, runSum g r 32 (ix1 l) = ∑ j : Fin 4096, g j.val := by
  have e : ∑ l : Fin 16, ∑ r ∈ range 8, runSum g r 32 (ix1 l) = ∑ l ∈ range 16, ∑ r ∈ range 8, ∑ t ∈ range 32, g (128 * t + 16 * r + l) :=
    Fin.sum_univ_eq_sum_range (fun l => ∑ r ∈ range 8, ∑ t ∈ range 32, g (128 * t + 16 * r + l)) 16
  have h : ∀ t, ∑ y ∈ range 128, g (128 * t + y) = ∑ r ∈ range 8, ∑ l ∈ range 16, g (128 * t + 16 * r + l) := fun t => by
    rw [show (128 : ℕ) = 8 * 16 from rfl, sum_range_blocks (fun y => g (8 * 16 * t + y))]
    simp only [Nat.add_assoc]
  rw [e, Fin.sum_univ_eq_sum_range (fun j => g j) 4096, show (4096 : ℕ) = 32 * 128 from rfl, sum_range_blocks]
  simp only [h]
  rw [Finset.sum_comm, Finset.sum_comm (s := range 32)]
  exact Finset.sum_congr rfl fun r _ => Finset.sum_comm

end Cert.Proof.Sums
-- ==== Proof.Setup.lean ====
/-
  The launch as the proof sees it: the program's calls and threads, the arrays of @main, what the launch hands each of the
  sixteen tiles and takes back. Tile `w` gets a share of the flat table and a share of the mask, both read only, and row
  `w` of the result to write; it brings the row back holding `outVal`.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Sums
public import proofs.«01_k».proof.Proof.Gen.KernelIdeal
public import proofs.«01_k».proof.Proof.Gen.KernelIdeal.Skeleton

@[expose] public section

noncomputable section

namespace Cert.Proof.Launch

open Cert.KernelIdeal Cert.KernelIdeal.Gen

open Idealize.ShloMosaic
open Idealize.ShloMosaic.ValueIdx (ix1 ix2 ix3)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call's semaphores are distinct and not scoped, and no buffer of a SparseCore is shared by its tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds and the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ)

/-- `x`, the mask, the flat table `x` is reshaped to, and the result. -/
abbrev xLoc (d : Dev nD) : Loc nD τ sig := (SparseCore.T d).loc main_arg0
abbrev mLoc (d : Dev nD) : Loc nD τ sig := (SparseCore.T d).loc main_arg1
abbrev fLoc (d : Dev nD) : Loc nD τ sig := (SparseCore.T d).loc main_v0
abbrev oLoc (d : Dev nD) : Loc nD τ sig := (SparseCore.T d).loc main_v1

local notation "fV" => (Memref.whole Cert.KernelIdeal.main_v0_scv : Memref Cert.KernelIdeal.sig Kind.scVector Space.hbm Cert.KernelIdeal.S65536x1024 EltTy.f32)
local notation "mV" => (Memref.whole Cert.KernelIdeal.main_arg1_scv : Memref Cert.KernelIdeal.sig Kind.scVector Space.hbm Cert.KernelIdeal.S16x4096 EltTy.i32)
local notation "oV" => (Memref.whole Cert.KernelIdeal.main_v1_scv : Memref Cert.KernelIdeal.sig Kind.scVector Space.hbm Cert.KernelIdeal.S16x1024 EltTy.f32)

theorem odiv : 16 ∣ S16x1024.size 0 := ⟨1, rfl⟩
/-- Row `i` of the result, and its elements. -/
abbrev orow (i : Fin 16) : Rect S16x1024 := Rect.part (s := S16x1024) (a₀ := 0) odiv i
abbrev oRowSet (i : Fin 16) : Finset S16x1024.Idx := ((oV).view.slice (orow i)).set

/-! ## The values -/

/-- Word `n` of row `w` of the mask (positions past the row's end wrap; none is read). -/
def maskWord (d : Dev nD) (w : Fin 16) (n : ℕ) : BitVec 32 :=
  (m (mLoc d) : S16x4096.Idx → BitVec 32) (ix2 w (Fin.ofNat 4096 n))

/-- The sum of row `w` of the mask, as a 32-bit word. -/
def rowSum (d : Dev nD) (w : Fin 16) : BitVec 32 := ∑ j : Fin 4096, (m (mLoc d) : S16x4096.Idx → BitVec 32) (ix2 w j)

/-- Every row of the mask sums to a number from 1 to 4096: what the precondition says. -/
def RowsOK : Prop := ∀ (d : Dev nD) (w : Fin 16), 1 ≤ (rowSum m d w).toNat ∧ (rowSum m d w).toNat ≤ 4096

/-- The flat table: `x` with its first two axes made one. -/
def flat (d : Dev nD) : Buf (Elt F) (fLoc d) :=
  shapeCast S65536x1024 (m (xLoc d) : S16x4096x1024.Idx → Elt F .f32) shapeCasts_S16x4096x1024_S65536x1024

/-- The row of the flat table that tile `w` copies out: the last token of sequence `w`. -/
def rowOf (d : Dev nD) (w : Fin 16) : ℕ := w.val * 4096 + (rowSum m d w).toNat - 1

/-- What the result holds in the end: row `w` is row `rowOf w` of the flat table. -/
def outVal (d : Dev nD) : Buf (Elt F) (oLoc d) := fun j : S16x1024.Idx =>
  (flat m d : S65536x1024.Idx → Elt F .f32) (ix2 (Fin.ofNat 65536 (rowOf m d (j 0))) (j 1))

variable [FloatOps F]

/-! ## What the handshakes carry -/

/-- Tile `i`'s share of an array all the tiles read. -/
abbrev rq (i : Fin 16) : PosShare TreeShare := Transfers.dealOf fullShare Finset.univ i

abbrev xPts (d : Dev nD) : sProp 𝕄 := xLoc d ↦{fullShare} m (xLoc d)
abbrev fPts (d : Dev nD) : sProp 𝕄 := fLoc d ↦{fullShare} flat m d
abbrev mPts (d : Dev nD) : sProp 𝕄 := mLoc d ↦{fullShare} m (mLoc d)
abbrev oPts (d : Dev nD) (f : Buf (Elt F) (oLoc d)) : sProp 𝕄 := oLoc d ↦{fullShare} f
abbrev fShPts (d : Dev nD) (i : Fin 16) : sProp 𝕄 := fLoc d ↦{rq i} flat m d
abbrev mShPts (d : Dev nD) (i : Fin 16) : sProp 𝕄 := mLoc d ↦{rq i} m (mLoc d)
abbrev oRowPts (d : Dev nD) (i : Fin 16) (f : Buf (Elt F) (oLoc d)) : sProp 𝕄 := oLoc d ↦[oRowSet i]{fullShare} f

/-- The call takes the flat table, the mask and the result whole, and brings them back with the result at `outVal`; tile
    `i` takes its shares and row `i`, and brings them back with the row at `outVal`. -/
def P : (K (F := F)).Pay (nD := nD) (Val := Elt F) (Name := ℕ) (U := UU) where
  st := fun q d _ => match q with | 0 => iprop(fPts m d ∗ mPts m d ∗ oPts d (m (oLoc d)))
  dn := fun q d _ => match q with | 0 => iprop(fPts m d ∗ mPts m d ∗ oPts d (outVal m d))
  go := fun q d _ i => match q with
    | 0 => iprop(fShPts m d (Fin.cast nSub_zero i) ∗ mShPts m d (Fin.cast nSub_zero i) ∗ oRowPts d (Fin.cast nSub_zero i) (m (oLoc d)))
  td := fun q d _ i => match q with
    | 0 => iprop(fShPts m d (Fin.cast nSub_zero i) ∗ mShPts m d (Fin.cast nSub_zero i) ∗ oRowPts d (Fin.cast nSub_zero i) (outVal m d))
  x := fun _ _ => iprop(emp)

instance P_storable : (P (F := F) m).IsStorable where
  st q d _ := match q with
    | 0 => (inferInstance : BI.Storable (upEmb : UEmb _ 𝕄) iprop(fPts m d ∗ mPts m d ∗ oPts d (m (oLoc d))))
  dn q d _ := match q with
    | 0 => (inferInstance : BI.Storable (upEmb : UEmb _ 𝕄) iprop(fPts m d ∗ mPts m d ∗ oPts d (outVal m d)))
  go q d _ i := match q with
    | 0 => (inferInstance : BI.Storable (upEmb : UEmb _ 𝕄)
      iprop(fShPts m d (Fin.cast nSub_zero i) ∗ mShPts m d (Fin.cast nSub_zero i) ∗ oRowPts d (Fin.cast nSub_zero i) (m (oLoc d))))
  td q d _ i := match q with
    | 0 => (inferInstance : BI.Storable (upEmb : UEmb _ 𝕄)
      iprop(fShPts m d (Fin.cast nSub_zero i) ∗ mShPts m d (Fin.cast nSub_zero i) ∗ oRowPts d (Fin.cast nSub_zero i) (outVal m d)))

end Cert.Proof.Launch

end
-- ==== Proof.Places.lean ====
/-
  Where a tile reads and writes: the two halves of its mask scratch, the two halves of its row of the mask, and its row of
  the result, spelt as the kernel slices them, with the elements each covers.
-/
module

public import proofs.«01_k».proof.Proof.Setup

@[expose] public section

noncomputable section

namespace Cert.Proof.Launch

open Cert.KernelIdeal Cert.KernelIdeal.Gen

open Idealize.ShloMosaic
open Idealize.ShloMosaic.ValueIdx (ix1 ix2 ix3)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ
local notation "fV" => (Memref.whole Cert.KernelIdeal.main_v0_scv : Memref Cert.KernelIdeal.sig Kind.scVector Space.hbm Cert.KernelIdeal.S65536x1024 EltTy.f32)
local notation "mV" => (Memref.whole Cert.KernelIdeal.main_arg1_scv : Memref Cert.KernelIdeal.sig Kind.scVector Space.hbm Cert.KernelIdeal.S16x4096 EltTy.i32)
local notation "oV" => (Memref.whole Cert.KernelIdeal.main_v1_scv : Memref Cert.KernelIdeal.sig Kind.scVector Space.hbm Cert.KernelIdeal.S16x1024 EltTy.f32)
local notation "sV" => (Memref.whole Cert.KernelIdeal.cc0_scratch0 : Memref Cert.KernelIdeal.sig Kind.scVector Space.vmem Cert.KernelIdeal.S4096 EltTy.i32)
local notation "rV" => (Memref.whole Cert.KernelIdeal.cc0_scratch1 : Memref Cert.KernelIdeal.sig Kind.scVector Space.vmem Cert.KernelIdeal.S1x1024 EltTy.f32)

/-- The SparseCore of grid position `L`, and its tile. -/
abbrev cV (L : grid0.Coords) : Fin τ.nSC := (L 0).castLE hcore0
abbrev jV (L : grid0.Coords) : Fin τ.nSub := (L 1).castLE hsub0
/-- A SparseCore has sixteen tiles. -/
theorem bound_one : grid0.bound 1 = 16 := rfl
/-- The tile's number, which is the row it works on. -/
abbrev jL (L : grid0.Coords) : Fin 16 := Fin.cast bound_one (L 1)

variable (d : Dev nD) (L : grid0.Coords)

/-! ## The mask scratch, in halves -/

/-- The halves of the mask scratch, as the kernel slices them. -/
abbrev loK : Memref sig .scVector .vmem S2048 .i32 := (sV).slice (Rect.unit (s := S4096) ![0] S2048.size inb_S4096_S2048_0) (fun _ => rfl)
abbrev hiK : Memref sig .scVector .vmem S2048 .i32 := (sV).slice (Rect.unit (s := S4096) ![2048] S2048.size inb_S4096_S2048_2048) (fun _ => rfl)

/-- The low half is the first 2048 words. -/
theorem mem_lo (j : S4096.Idx) : j ∈ (loK).view.set ↔ (j 0).val < 2048 := by
  show j ∈ ((View.whole (cc0_scratch0 : Ref sig .scVector)).slice (Rect.unit (s := S4096) ![0] S2048.size inb_S4096_S2048_0)).set ↔ _
  rw [View.set_slice, show (View.whole (cc0_scratch0 : Ref sig .scVector)).emb = Function.Embedding.refl _ from rfl, Finset.map_refl, Rect.mem_set_unit]
  constructor
  · intro h; have := (h 0).2; simpa using this
  · intro h a
    match a with
    | 0 => exact ⟨Nat.zero_le _, by simpa using h⟩

/-- The high half is the words from 2048 on. -/
theorem mem_hi (j : S4096.Idx) : j ∈ (hiK).view.set ↔ 2048 ≤ (j 0).val := by
  show j ∈ ((View.whole (cc0_scratch0 : Ref sig .scVector)).slice (Rect.unit (s := S4096) ![2048] S2048.size inb_S4096_S2048_2048)).set ↔ _
  rw [View.set_slice, show (View.whole (cc0_scratch0 : Ref sig .scVector)).emb = Function.Embedding.refl _ from rfl, Finset.map_refl, Rect.mem_set_unit]
  have hj : (j 0).val < 4096 := (j 0).isLt
  constructor
  · intro h; exact (h 0).1
  · intro h a
    match a with
    | 0 => exact ⟨h, by show (j 0).val < 2048 + 2048; omega⟩

/-- The halves have no word in common. -/
theorem disjoint_lo_hi : Disjoint (loK).view.set (hiK).view.set :=
  Finset.disjoint_left.mpr fun j h h' => absurd ((mem_hi j).mp h') (by have := (mem_lo j).mp h; omega)
/-- The halves are the whole scratch. -/
theorem lo_union_hi : (loK).view.set ∪ (hiK).view.set = (Finset.univ : Finset S4096.Idx) := by
  ext j
  simp only [Finset.mem_union, Finset.mem_univ, iff_true]
  rcases Nat.lt_or_ge (j 0).val 2048 with h | h
  · exact .inl ((mem_lo j).mpr h)
  · exact .inr ((mem_hi j).mpr h)

/-! ## The row of the mask, in halves -/

/-- The halves of the tile's row of the mask, as the kernel slices them. -/
abbrev aK (L : grid0.Coords) : Memref sig .scVector .hbm S2048 .i32 :=
  ((mV).slice (Rect.unit (s := S16x4096) (k0_off1 L) S1x2048.size (k0_off1_inb L)) (fun _ => rfl)).squeeze S2048 squeezes_S1x2048_S2048
abbrev bK (L : grid0.Coords) : Memref sig .scVector .hbm S2048 .i32 :=
  ((mV).slice (Rect.unit (s := S16x4096) (k0_off2 L) S1x2048.size (k0_off2_inb L)) (fun _ => rfl)).squeeze S2048 squeezes_S1x2048_S2048

/-- The halves of the row have no word in common. -/
theorem disjoint_a_b : Disjoint (aK L).view.set (bK L).view.set := by
  show Disjoint (((View.whole (main_arg1_scv : Ref sig .scVector)).slice (Rect.unit (s := S16x4096) (k0_off1 L) S1x2048.size (k0_off1_inb L))).reshape S2048 squeezes_S1x2048_S2048.numel_eq).set
    (((View.whole (main_arg1_scv : Ref sig .scVector)).slice (Rect.unit (s := S16x4096) (k0_off2 L) S1x2048.size (k0_off2_inb L))).reshape S2048 squeezes_S1x2048_S2048.numel_eq).set
  rw [View.set_reshape, View.set_reshape, View.set_slice, View.set_slice, Finset.disjoint_map]
  refine Rect.unit_disjoint 1 ?_
  rw [k0_off1_eq, k0_off2_eq]
  exact .inl (show 0 + 2048 ≤ 2048 by omega)

/-! ## The row of the result -/

/-- The tile's row of the result, as the kernel slices it. -/
abbrev orowK (L : grid0.Coords) : Rect S16x1024 := Rect.unit (s := S16x1024) (k0_off6 L) S1x1024.size (k0_off6_inb L)
abbrev oRowK (L : grid0.Coords) : Memref sig .scVector .hbm S1x1024 .f32 := (oV).slice (orowK L) (fun _ => rfl)

/-- That slice is the row the launch hands the tile. -/
theorem orowK_eq : orowK L = orow (jL L) := by
  unfold orowK orow Rect.part Rect.block
  congr 1 <;> funext a
  · rw [k0_off6_eq]
    match a with
    | 0 => simp [Shape.partIx, Shape.partSize]
    | 1 => simp [Shape.partIx, Shape.partSize]
  · match a with
    | 0 => simp [Shape.partSize]
    | 1 => simp [Shape.partSize]

/-- It covers the same elements. -/
theorem set_oRowK : (oRowK L).view.set = oRowSet (jL L) := by
  show ((oV).view.slice (orowK L)).set = ((oV).view.slice (orow (jL L))).set
  exact orowK_eq L ▸ rfl

/-! ## The points-tos, as the task addresses them -/

/-- Holding the row as the kernel slices it is holding it as the launch hands it out. -/
theorem pts_oRowK (f : Buf (Elt F) (oLoc d)) :
    ((oRowK L).view.loc (V d (cV L) (jV L)) ↦[(oRowK L).view.set]{fullShare} f : sProp 𝕄) = oLoc d ↦[oRowSet (jL L)]{fullShare} f := by
  rw [set_oRowK]
/-- Holding the flat table as the tile names it is holding it as @main names it. -/
theorem pts_fV (q : PosShare TreeShare) (f : Buf (Elt F) (fLoc d)) :
    ((fV).view.loc (V d (cV L) (jV L)) ↦{q} f : sProp 𝕄) = fLoc d ↦{q} f := rfl
/-- Holding the row buffer through its view is holding it whole. -/
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The mask, at any share, is the two halves of the tile's row and the rest. -/
theorem pts_mV (q : PosShare TreeShare) (f : Buf (Elt F) (mLoc d)) :
    (mLoc d ↦{q} f : sProp 𝕄) ⊣⊢ iprop(((aK L).view.loc (V d (cV L) (jV L)) ↦[(aK L).view.set]{q} f)
      ∗ ((bK L).view.loc (V d (cV L) (jV L)) ↦[(bK L).view.set]{q} f)
      ∗ mLoc d ↦[(Finset.univ \ (aK L).view.set) \ (bK L).view.set]{q} f) := by
  have h1 := pointsTo_split_subset (Ix := HIx 1) (Val := Elt F) (Name := ℕ) (U := UU) (Lvl := ℕ) (ℓ := mLoc d) (q := q) (f := f) (Finset.subset_univ (aK L).view.set)
  have h2 := pointsTo_split_subset (Ix := HIx 1) (Val := Elt F) (Name := ℕ) (U := UU) (Lvl := ℕ) (ℓ := mLoc d) (q := q) (f := f)
    (Finset.subset_sdiff.mpr ⟨Finset.subset_univ (bK L).view.set, (disjoint_a_b L).symm⟩)
  exact ⟨h1.1.trans (sep_mono_right h2.1), (sep_mono_right h2.2).trans h1.2⟩

/-- The mask scratch is its two halves. -/
theorem pts_sV (f : Buf (Elt F) ((V d (cV L) (jV L)).loc cc0_scratch0)) :
    ((V d (cV L) (jV L)).loc cc0_scratch0 ↦{fullShare} f : sProp 𝕄) ⊣⊢ iprop(((loK).view.loc (V d (cV L) (jV L)) ↦[(loK).view.set]{fullShare} f)
      ∗ (hiK).view.loc (V d (cV L) (jV L)) ↦[(hiK).view.set]{fullShare} f) := by
  have h := pointsTo_union (Ix := HIx 1) (Val := Elt F) (Name := ℕ) (U := UU) (Lvl := ℕ) (ℓ := (V d (cV L) (jV L)).loc cc0_scratch0) (q := fullShare) (f := f) disjoint_lo_hi
  rw [lo_union_hi] at h
  exact h

/-! ## The tile's own semaphores and buffers -/

/-- The four semaphores of a tile's copies: the two halves of the mask, the row in, the row out. -/
abbrev cAcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scratch3.sem)
abbrev cCcell (d : Dev nD) (c : Fin τ.nSC) (i : Fin τ.nSub) : GSem nD τ sig := (V d c i, .dma cc0_scoped0.sem)
abbrev cDcell (d : Dev nD) (c : Fin τ.nSC) (i : Fin τ.nSub) : GSem nD τ sig := (V d c i, .dma cc0_scoped1.sem)

/-- The kernel's four transfer semaphores are among the subcore's own: they are them, at zero, and the rest. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0 ∗ semVal (cDcell d (cV L) (jV L)) 0
          ∗ bigSep (((((ownCells (V d (cV L) (jV L))).erase (cAcell d (cV L) (jV L))).erase (cBcell d (cV L) (jV L))).erase (cCcell d (cV L) (jV L))).erase
              (cDcell d (cV L) (jV L))) fun g => semVal g 0) := by
  have hne : ∀ {s t : Fin 4}, s ≠ t → ((V d (cV L) (jV L), SemLoc.dma s) : GSem nD τ sig) ≠ (V d (cV L) (jV L), SemLoc.dma t) :=
    fun h e => h (SemLoc.dma.inj (Prod.mk.inj e).2)
  have own : ∀ s : Fin 4, (SemLoc.dma s : SemLoc sig).isScoped .scVector = true → ((V d (cV L) (jV L), SemLoc.dma s) : GSem nD τ sig) ∈ ownCells (V d (cV L) (jV L)) :=
    fun s h => mem_ownCells.mpr ⟨rfl, h⟩
  unfold SparseCore.Cfg.ownSems0
  rw [SparseCore.bigSep_erase' (own cc0_scratch2.sem (by decide)),
    SparseCore.bigSep_erase' (Finset.mem_erase.mpr ⟨hne (by decide), own cc0_scratch3.sem (by decide)⟩),
    SparseCore.bigSep_erase' (Finset.mem_erase.mpr ⟨hne (by decide), Finset.mem_erase.mpr ⟨hne (by decide), own cc0_scoped0.sem (by decide)⟩⟩),
    SparseCore.bigSep_erase' (Finset.mem_erase.mpr ⟨hne (by decide), Finset.mem_erase.mpr ⟨hne (by decide), Finset.mem_erase.mpr ⟨hne (by decide),
      own cc0_scoped1.sem (by decide)⟩⟩⟩)]

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

end Cert.Proof.Launch

end
-- ==== Proof.Values.lean ====
/-
  The values one tile computes: the words it reads from its mask scratch, the eight running sums it carries through its two
  loops, the row number those come to, and the two rows it copies.
-/
module

public import proofs.«01_k».proof.Proof.Places

@[expose] public section

noncomputable section

namespace Cert.Proof.Launch

open Cert.KernelIdeal Cert.KernelIdeal.Gen

open Idealize.ShloMosaic
open Idealize.ShloMosaic.ValueIdx (ix1 ix2 ix3)
open Idealize.ShloMosaic.SparseCore (S V T)
open Cert.Proof.Sums

variable {F : FTy → Type}

local notation "fV" => (Memref.whole Cert.KernelIdeal.main_v0_scv : Memref Cert.KernelIdeal.sig Kind.scVector Space.hbm Cert.KernelIdeal.S65536x1024 EltTy.f32)
local notation "rV" => (Memref.whole Cert.KernelIdeal.cc0_scratch1 : Memref Cert.KernelIdeal.sig Kind.scVector Space.vmem Cert.KernelIdeal.S1x1024 EltTy.f32)
local notation "sV" => (Memref.whole Cert.KernelIdeal.cc0_scratch0 : Memref Cert.KernelIdeal.sig Kind.scVector Space.vmem Cert.KernelIdeal.S4096 EltTy.i32)

variable (m : (ℓ : Loc nD τ sig) → Buf (Elt F) ℓ) (d : Dev nD) (L : grid0.Coords)

/-- The eight running sums a tile's loops carry. -/
abbrev Acc : Type := IVec S16 32 × IVec S16 32 × IVec S16 32 × IVec S16 32 × IVec S16 32 × IVec S16 32 × IVec S16 32 × IVec S16 32

/-- The words of the tile's row of the mask, by position. -/
abbrev wordsOf : ℕ → BitVec 32 := maskWord m d (jL L)

/-- The mask scratch, once the row is in it. -/
def rowBuf : Buf (Elt F) ((V d (cV L) (jV L)).loc cc0_scratch0) := fun j : S4096.Idx => wordsOf m d L (j 0).val

/-- The eight running sums after `n` trips over both loops, the first loop's trips first. -/
def sums (g : ℕ → BitVec 32) (n : ℕ) : Acc :=
  (runSum g 0 n, runSum g 1 n, runSum g 2 n, runSum g 3 n, runSum g 4 n, runSum g 5 n, runSum g 6 n, runSum g 7 n)

/-- The kernel starts from sums of no trips. -/
theorem sums_zero (g : ℕ → BitVec 32) : (k0_pay12, k0_pay13, k0_pay14, k0_pay15, k0_pay16, k0_pay17, k0_pay18, k0_pay19) = sums g 0 := rfl

/-- A load of sixteen words from position `n` of the filled scratch reads the piece at `n`. -/
theorem load_piece (off : Fin 1 → ℕ) (inb : ∀ a, off a + S16.size a ≤ S4096.size a) (n : ℕ) (h : off = ![n]) :
    (sV).view.readAt (Elt F) (Rect.unit (s := S4096) off S16.size inb).toLoadRect (rowBuf m d L) = piece (wordsOf m d L) n := by
  subst h
  funext l
  rw [View.readAt_rect]
  show wordsOf m d L (n + 1 * (l 0).val) = wordsOf m d L (n + (l 0).val)
  rw [Nat.one_mul]

/-- A trip's addition to running sum `r`: the piece it loads makes the sum of `n` trips the sum of `n + 1`. -/
theorem add_piece (off : Fin 1 → ℕ) (inb : ∀ a, off a + S16.size a ≤ S4096.size a) (r n : ℕ) (h : off = ![128 * n + 16 * r]) :
    addi (runSum (wordsOf m d L) r n)
      (shapeCast S16 ((sV).view.readAt (Elt F) (Rect.unit (s := S4096) off S16.size inb).toLoadRect (rowBuf m d L) : Vec F S16 .i32) shapeCasts_S16_S16)
      = runSum (wordsOf m d L) r (n + 1) := by
  rw [load_piece m d L off inb _ h]
  refine (congrArg (addi (runSum (wordsOf m d L) r n)) (shapeCast_self (s := S16) _ _)).trans ?_
  funext l
  exact (runSum_succ (wordsOf m d L) r n l).symm

/-! ## What the two fetches bring -/

/-- The first half of the tile's row of the mask. -/
theorem read_a (y : S2048.Idx) : (aK L).view.read (Elt F) (m (mLoc d)) y = wordsOf m d L (y 0).val := by
  have e : (aK L).view.emb y = (ix2 (jL L) (Fin.ofNat 4096 (y 0).val) : S16x4096.Idx) := by
    show (Rect.unit (s := S16x4096) (k0_off1 L) S1x2048.size (k0_off1_inb L)).emb (Shape.reshapeEquiv squeezes_S1x2048_S2048.numel_eq y) = _
    have h0 : Shape.reshapeEquiv squeezes_S1x2048_S2048.numel_eq y = (Fin.cons ⟨0, Nat.one_pos⟩ y : S1x2048.Idx) :=
      Shape.reshapeEquiv_cons_one (n := 1) (d := ![2048]) _ y
    rw [h0]
    have hy : (y 0).val < 2048 := (y 0).isLt
    funext a
    apply Fin.ext
    match a with
    | 0 => show k0_off1 L 0 + 1 * 0 = (L 1).val; rw [k0_off1_eq]; rfl
    | 1 =>
      show k0_off1 L 1 + 1 * (y 0).val = (y 0).val % 4096
      rw [k0_off1_eq, Nat.mod_eq_of_lt (by omega)]
      show 0 + 1 * (y 0).val = (y 0).val
      omega
  exact congrArg (m (mLoc d)) e

/-- The second half of the tile's row of the mask. -/
theorem read_b (y : S2048.Idx) : (bK L).view.read (Elt F) (m (mLoc d)) y = wordsOf m d L (2048 + (y 0).val) := by
  have e : (bK L).view.emb y = (ix2 (jL L) (Fin.ofNat 4096 (2048 + (y 0).val)) : S16x4096.Idx) := by
    show (Rect.unit (s := S16x4096) (k0_off2 L) S1x2048.size (k0_off2_inb L)).emb (Shape.reshapeEquiv squeezes_S1x2048_S2048.numel_eq y) = _
    have h0 : Shape.reshapeEquiv squeezes_S1x2048_S2048.numel_eq y = (Fin.cons ⟨0, Nat.one_pos⟩ y : S1x2048.Idx) :=
      Shape.reshapeEquiv_cons_one (n := 1) (d := ![2048]) _ y
    rw [h0]
    have hy : (y 0).val < 2048 := (y 0).isLt
    funext a
    apply Fin.ext
    match a with
    | 0 => show k0_off2 L 0 + 1 * 0 = (L 1).val; rw [k0_off2_eq]; rfl
    | 1 =>
      show k0_off2 L 1 + 1 * (y 0).val = (2048 + (y 0).val) % 4096
      rw [k0_off2_eq, Nat.mod_eq_of_lt (by omega)]
      show 2048 + 1 * (y 0).val = 2048 + (y 0).val
      omega
  exact congrArg (m (mLoc d)) e

/-- The two halves of the mask scratch, as rectangles. -/
abbrev loR : Rect S4096 := Rect.unit (s := S4096) ![0] S2048.size inb_S4096_S2048_0
abbrev hiR : Rect S4096 := Rect.unit (s := S4096) ![2048] S2048.size inb_S4096_S2048_2048

/-- Contents written whole through a view, at an element of the view. -/
theorem written_at {s : Shape} {sp : Space} {e : EltTy} (M : Memref sig .scVector sp s e) (f : M.view.ty.Contents (Elt F)) (p : s.Idx → Elt F e) (y : s.Idx) :
    M.view.read (Elt F) (M.view.writes (Elt F) f [⟨Rect.whole s, p⟩]) y = p y := by
  have h := View.read_writes_cons_emb (v := M.view) (f := f) (Rect.whole s) p [] y
  rw [Rect.emb_whole_apply] at h
  exact h

/-- Where a position of the low half lies in the scratch. -/
theorem emb_lo (y : S2048.Idx) : (((loK).view.emb y : S4096.Idx) 0).val = (y 0).val := by
  refine (Rect.emb_apply (r := loR) y 0).trans ?_
  show 0 + 1 * (y 0).val = _
  omega

/-- Where a position of the high half lies in the scratch. -/
theorem emb_hi (y : S2048.Idx) : (((hiK).view.emb y : S4096.Idx) 0).val = 2048 + (y 0).val := by
  refine (Rect.emb_apply (r := hiR) y 0).trans ?_
  show 2048 + 1 * (y 0).val = _
  rw [Nat.one_mul]

/-- A half read at a position is the scratch at the place where that position lies. -/
theorem read_lo (f : (loK).view.ty.Contents (Elt F)) (y : S2048.Idx) : (loK).view.read (Elt F) f y = f ((loK).view.emb y) := rfl
/-- The same of the high half. -/
theorem read_hi (f : (hiK).view.ty.Contents (Elt F)) (y : S2048.Idx) : (hiK).view.read (Elt F) f y = f ((hiK).view.emb y) := rfl
/-- The filled scratch at a position is the row's word there. -/
theorem rowBuf_apply (j : S4096.Idx) : rowBuf m d L j = wordsOf m d L (j 0).val := rfl

/-- After the first fetch, the first half of the scratch holds the row's first half. -/
theorem lo_landed (fs : (loK).view.ty.Contents (Elt F)) (p : S2048.Idx → Elt F .i32)
    (hp : ∀ y, p y = wordsOf m d L (y 0).val) (j : S4096.Idx) (hj : j ∈ (loK).view.set) :
    (loK).view.writes (Elt F) fs [⟨Rect.whole S2048, p⟩] j = rowBuf m d L j := by
  obtain ⟨y, -, rfl⟩ := Finset.mem_map.mp hj
  rw [rowBuf_apply, emb_lo, ← hp y]
  exact (read_lo _ y).symm.trans (written_at loK fs p y)

/-- After the second fetch, the second half of the scratch holds the row's second half. -/
theorem hi_landed (fs : (hiK).view.ty.Contents (Elt F)) (p : S2048.Idx → Elt F .i32)
    (hp : ∀ y, p y = wordsOf m d L (2048 + (y 0).val)) (j : S4096.Idx) (hj : j ∈ (hiK).view.set) :
    (hiK).view.writes (Elt F) fs [⟨Rect.whole S2048, p⟩] j = rowBuf m d L j := by
  obtain ⟨y, -, rfl⟩ := Finset.mem_map.mp hj
  rw [rowBuf_apply, emb_hi, ← hp y]
  exact (read_hi _ y).symm.trans (written_at hiK fs p y)

/-! ## The row number -/

/-- Lane `l` of the eight running sums' total, after all thirty-two trips. -/
def lane (l : Fin 16) : BitVec 32 := ∑ r ∈ Finset.range 8, runSum (wordsOf m d L) r 32 (ix1 l)

/-- The sixteen lanes come to the sum of the row. -/
theorem sum_lane : ∑ l : Fin 16, lane m d L l = rowSum m d (jL L) := by
  refine (sum_lanes (wordsOf m d L)).trans ?_
  refine Finset.sum_congr rfl fun j _ => ?_
  show (m (mLoc d) : S16x4096.Idx → BitVec 32) (ix2 (jL L) (Fin.ofNat 4096 j.val)) = _
  rw [show Fin.ofNat 4096 j.val = j from Fin.ext (Nat.mod_eq_of_lt j.isLt)]

/-- What the kernel extracts as lane `l`. -/
theorem extract_lane (l : Fin 16) (h : S16.Slices ![l.val] S1) (hp : ∀ a, (![0] : Fin 1 → ℕ) a < S1.size a) :
    extractAt (s := S1) ![0] (extractStridedSlice (s := S16) S1 ![l.val]
      (k0_pay27 (runSum (wordsOf m d L) 0 32) (runSum (wordsOf m d L) 1 32) (runSum (wordsOf m d L) 2 32) (runSum (wordsOf m d L) 3 32)
        (runSum (wordsOf m d L) 4 32) (runSum (wordsOf m d L) 5 32) (runSum (wordsOf m d L) 6 32) (runSum (wordsOf m d L) 7 32)) h) hp = lane m d L l := by
  unfold lane
  simp only [Finset.sum_range_succ, Finset.sum_range_zero, zero_add]
  have e : ((fun a => ⟨(![l.val] : Fin 1 → ℕ) a + 0, by match a with | 0 => exact l.isLt⟩ : S16.Idx)) = ix1 l := by
    funext a
    match a with
    | 0 => rfl
  rw [← e]
  rfl

/-- The offsets of the row the tile copies, from sixteen lanes that come to the row's sum. -/
theorem off5_of (hpre : RowsOK m) (v0 v1 v2 v3 v4 v5 v6 v7 v8 v9 v10 v11 v12 v13 v14 v15 : BitVec 32)
    (h : v0 + v1 + v2 + v3 + v4 + v5 + v6 + v7 + v8 + v9 + v10 + v11 + v12 + v13 + v14 + v15 = rowSum m d (jL L)) :
    k0_off5 L v0 v1 v2 v3 v4 v5 v6 v7 v8 v9 v10 v11 v12 v13 v14 v15 = ![rowOf m d (jL L), 0] := by
  show ![(BitVec.ofNat 32 (L 1).val * 4096#32 + (v0 + v1 + v2 + v3 + v4 + v5 + v6 + v7 + v8 + v9 + v10 + v11 + v12 + v13 + v14 + v15) - 1#32).toNat, 0] = _
  rw [h]
  have hs := hpre d (jL L)
  have hw : (L 1).val < 16 := (L 1).isLt
  have e : (BitVec.ofNat 32 (L 1).val * 4096#32 + rowSum m d (jL L) - 1#32).toNat = (L 1).val * 4096 + (rowSum m d (jL L)).toNat - 1 := by
    simp only [BitVec.toNat_sub, BitVec.toNat_add, BitVec.toNat_mul, BitVec.toNat_ofNat]
    omega
  rw [e]
  rfl

/-- The offsets of the row the tile copies, as the kernel computes them from the lanes it extracts. -/
theorem off5_lanes (hpre : RowsOK m) :
    k0_off5 L (extractAt ![0] (k0_pay28 (runSum (wordsOf m d L) 0 32) (runSum (wordsOf m d L) 1 32) (runSum (wordsOf m d L) 2 32) (runSum (wordsOf m d L) 3 32) (runSum (wordsOf m d L) 4 32) (runSum (wordsOf m d L) 5 32) (runSum (wordsOf m d L) 6 32) (runSum (wordsOf m d L) 7 32)) inpos_S1_p0)
      (extractAt ![0] (k0_pay29 (runSum (wordsOf m d L) 0 32) (runSum (wordsOf m d L) 1 32) (runSum (wordsOf m d L) 2 32) (runSum (wordsOf m d L) 3 32) (runSum (wordsOf m d L) 4 32) (runSum (wordsOf m d L) 5 32) (runSum (wordsOf m d L) 6 32) (runSum (wordsOf m d L) 7 32)) inpos_S1_p0)
      (extractAt ![0] (k0_pay30 (runSum (wordsOf m d L) 0 32) (runSum (wordsOf m d L) 1 32) (runSum (wordsOf m d L) 2 32) (runSum (wordsOf m d L) 3 32) (runSum (wordsOf m d L) 4 32) (runSum (wordsOf m d L) 5 32) (runSum (wordsOf m d L) 6 32) (runSum (wordsOf m d L) 7 32)) inpos_S1_p0)
      (extractAt ![0] (k0_pay31 (runSum (wordsOf m d L) 0 32) (runSum (wordsOf m d L) 1 32) (runSum (wordsOf m d L) 2 32) (runSum (wordsOf m d L) 3 32) (runSum (wordsOf m d L) 4 32) (runSum (wordsOf m d L) 5 32) (runSum (wordsOf m d L) 6 32) (runSum (wordsOf m d L) 7 32)) inpos_S1_p0)
      (extractAt ![0] (k0_pay32 (runSum (wordsOf m d L) 0 32) (runSum (wordsOf m d L) 1 32) (runSum (wordsOf m d L) 2 32) (runSum (wordsOf m d L) 3 32) (runSum (wordsOf m d L) 4 32) (runSum (wordsOf m d L) 5 32) (runSum (wordsOf m d L) 6 32) (runSum (wordsOf m d L) 7 32)) inpos_S1_p0)
      (extractAt ![0] (k0_pay33 (runSum (wordsOf m d L) 0 32) (runSum (wordsOf m d L) 1 32) (runSum (wordsOf m d L) 2 32) (runSum (wordsOf m d L) 3 32) (runSum (wordsOf m d L) 4 32) (runSum (wordsOf m d L) 5 32) (runSum (wordsOf m d L) 6 32) (runSum (wordsOf m d L) 7 32)) inpos_S1_p0)
      (extractAt ![0] (k0_pay34 (runSum (wordsOf m d L) 0 32) (runSum (wordsOf m d L) 1 32) (runSum (wordsOf m d L) 2 32) (runSum (wordsOf m d L) 3 32) (runSum (wordsOf m d L) 4 32) (runSum (wordsOf m d L) 5 32) (runSum (wordsOf m d L) 6 32) (runSum (wordsOf m d L) 7 32)) inpos_S1_p0)
      (extractAt ![0] (k0_pay35 (runSum (wordsOf m d L) 0 32) (runSum (wordsOf m d L) 1 32) (runSum (wordsOf m d L) 2 32) (runSum (wordsOf m d L) 3 32) (runSum (wordsOf m d L) 4 32) (runSum (wordsOf m d L) 5 32) (runSum (wordsOf m d L) 6 32) (runSum (wordsOf m d L) 7 32)) inpos_S1_p0)
      (extractAt ![0] (k0_pay36 (runSum (wordsOf m d L) 0 32) (runSum (wordsOf m d L) 1 32) (runSum (wordsOf m d L) 2 32) (runSum (wordsOf m d L) 3 32) (runSum (wordsOf m d L) 4 32) (runSum (wordsOf m d L) 5 32) (runSum (wordsOf m d L) 6 32) (runSum (wordsOf m d L) 7 32)) inpos_S1_p0)
      (extractAt ![0] (k0_pay37 (runSum (wordsOf m d L) 0 32) (runSum (wordsOf m d L) 1 32) (runSum (wordsOf m d L) 2 32) (runSum (wordsOf m d L) 3 32) (runSum (wordsOf m d L) 4 32) (runSum (wordsOf m d L) 5 32) (runSum (wordsOf m d L) 6 32) (runSum (wordsOf m d L) 7 32)) inpos_S1_p0)
      (extractAt ![0] (k0_pay38 (runSum (wordsOf m d L) 0 32) (runSum (wordsOf m d L) 1 32) (runSum (wordsOf m d L) 2 32) (runSum (wordsOf m d L) 3 32) (runSum (wordsOf m d L) 4 32) (runSum (wordsOf m d L) 5 32) (runSum (wordsOf m d L) 6 32) (runSum (wordsOf m d L) 7 32)) inpos_S1_p0)
      (extractAt ![0] (k0_pay39 (runSum (wordsOf m d L) 0 32) (runSum (wordsOf m d L) 1 32) (runSum (wordsOf m d L) 2 32) (runSum (wordsOf m d L) 3 32) (runSum (wordsOf m d L) 4 32) (runSum (wordsOf m d L) 5 32) (runSum (wordsOf m d L) 6 32) (runSum (wordsOf m d L) 7 32)) inpos_S1_p0)
      (extractAt ![0] (k0_pay40 (runSum (wordsOf m d L) 0 32) (runSum (wordsOf m d L) 1 32) (runSum (wordsOf m d L) 2 32) (runSum (wordsOf m d L) 3 32) (runSum (wordsOf m d L) 4 32) (runSum (wordsOf m d L) 5 32) (runSum (wordsOf m d L) 6 32) (runSum (wordsOf m d L) 7 32)) inpos_S1_p0)
      (extractAt ![0] (k0_pay41 (runSum (wordsOf m d L) 0 32) (runSum (wordsOf m d L) 1 32) (runSum (wordsOf m d L) 2 32) (runSum (wordsOf m d L) 3 32) (runSum (wordsOf m d L) 4 32) (runSum (wordsOf m d L) 5 32) (runSum (wordsOf m d L) 6 32) (runSum (wordsOf m d L) 7 32)) inpos_S1_p0)
      (extractAt ![0] (k0_pay1 (k0_pay27 (runSum (wordsOf m d L) 0 32) (runSum (wordsOf m d L) 1 32) (runSum (wordsOf m d L) 2 32) (runSum (wordsOf m d L) 3 32) (runSum (wordsOf m d L) 4 32) (runSum (wordsOf m d L) 5 32) (runSum (wordsOf m d L) 6 32) (runSum (wordsOf m d L) 7 32))) inpos_S1_p0)
      (extractAt ![0] (k0_pay2 (k0_pay27 (runSum (wordsOf m d L) 0 32) (runSum (wordsOf m d L) 1 32) (runSum (wordsOf m d L) 2 32) (runSum (wordsOf m d L) 3 32) (runSum (wordsOf m d L) 4 32) (runSum (wordsOf m d L) 5 32) (runSum (wordsOf m d L) 6 32) (runSum (wordsOf m d L) 7 32))) inpos_S1_p0)
      = ![rowOf m d (jL L), 0] := by
  refine off5_of m d L hpre _ _ _ _ _ _ _ _ _ _ _ _ _ _ _ _ ?_
  have e0 := extract_lane m d L 0 slices_S16_o0_S1 inpos_S1_p0
  have e1 := extract_lane m d L 1 slices_S16_o1_S1 inpos_S1_p0
  have e2 := extract_lane m d L 2 slices_S16_o2_S1 inpos_S1_p0
  have e3 := extract_lane m d L 3 slices_S16_o3_S1 inpos_S1_p0
  have e4 := extract_lane m d L 4 slices_S16_o4_S1 inpos_S1_p0
  have e5 := extract_lane m d L 5 slices_S16_o5_S1 inpos_S1_p0
  have e6 := extract_lane m d L 6 slices_S16_o6_S1 inpos_S1_p0
  have e7 := extract_lane m d L 7 slices_S16_o7_S1 inpos_S1_p0
  have e8 := extract_lane m d L 8 slices_S16_o8_S1 inpos_S1_p0
  have e9 := extract_lane m d L 9 slices_S16_o9_S1 inpos_S1_p0
  have e10 := extract_lane m d L 10 slices_S16_o10_S1 inpos_S1_p0
  have e11 := extract_lane m d L 11 slices_S16_o11_S1 inpos_S1_p0
  have e12 := extract_lane m d L 12 slices_S16_o12_S1 inpos_S1_p0
  have e13 := extract_lane m d L 13 slices_S16_o13_S1 inpos_S1_p0
  have e14 := extract_lane m d L 14 slices_S16_o14_S1 inpos_S1_p0
  have e15 := extract_lane m d L 15 slices_S16_o15_S1 inpos_S1_p0
  refine Eq.trans ?_ (sum_lane m d L)
  simp only [Fin.sum_univ_castSucc, Fin.sum_univ_zero, zero_add]
  exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) e0 e1) e2) e3) e4) e5) e6) e7) e8) e9) e10) e11) e12) e13) e14) e15

/-- The row number lies in the flat table. -/
theorem rowOf_lt (hpre : RowsOK m) (w : Fin 16) : rowOf m d w < 65536 := by
  have hs := hpre d w
  have hw := w.isLt
  unfold rowOf
  omega

/-- A row at those offsets lies in the flat table: the check the kernel makes. -/
theorem chk_of (hpre : RowsOK m) (off : Fin 2 → ℕ) (h : off = ![rowOf m d (jL L), 0]) : ∀ a, off a + S1x1024.size a ≤ S65536x1024.size a := by
  subst h
  have := rowOf_lt m d hpre (jL L)
  intro a
  match a with
  | 0 => show rowOf m d (jL L) + 1 ≤ 65536; omega
  | 1 => show 0 + 1024 ≤ 1024; omega

/-- The kernel's check of its own row number holds. -/
theorem chk_lanes (hpre : RowsOK m) :
    k0_chk1 L (extractAt ![0] (k0_pay28 (runSum (wordsOf m d L) 0 32) (runSum (wordsOf m d L) 1 32) (runSum (wordsOf m d L) 2 32) (runSum (wordsOf m d L) 3 32) (runSum (wordsOf m d L) 4 32) (runSum (wordsOf m d L) 5 32) (runSum (wordsOf m d L) 6 32) (runSum (wordsOf m d L) 7 32)) inpos_S1_p0)
      (extractAt ![0] (k0_pay29 (runSum (wordsOf m d L) 0 32) (runSum (wordsOf m d L) 1 32) (runSum (wordsOf m d L) 2 32) (runSum (wordsOf m d L) 3 32) (runSum (wordsOf m d L) 4 32) (runSum (wordsOf m d L) 5 32) (runSum (wordsOf m d L) 6 32) (runSum (wordsOf m d L) 7 32)) inpos_S1_p0)
      (extractAt ![0] (k0_pay30 (runSum (wordsOf m d L) 0 32) (runSum (wordsOf m d L) 1 32) (runSum (wordsOf m d L) 2 32) (runSum (wordsOf m d L) 3 32) (runSum (wordsOf m d L) 4 32) (runSum (wordsOf m d L) 5 32) (runSum (wordsOf m d L) 6 32) (runSum (wordsOf m d L) 7 32)) inpos_S1_p0)
      (extractAt ![0] (k0_pay31 (runSum (wordsOf m d L) 0 32) (runSum (wordsOf m d L) 1 32) (runSum (wordsOf m d L) 2 32) (runSum (wordsOf m d L) 3 32) (runSum (wordsOf m d L) 4 32) (runSum (wordsOf m d L) 5 32) (runSum (wordsOf m d L) 6 32) (runSum (wordsOf m d L) 7 32)) inpos_S1_p0)
      (extractAt ![0] (k0_pay32 (runSum (wordsOf m d L) 0 32) (runSum (wordsOf m d L) 1 32) (runSum (wordsOf m d L) 2 32) (runSum (wordsOf m d L) 3 32) (runSum (wordsOf m d L) 4 32) (runSum (wordsOf m d L) 5 32) (runSum (wordsOf m d L) 6 32) (runSum (wordsOf m d L) 7 32)) inpos_S1_p0)
      (extractAt ![0] (k0_pay33 (runSum (wordsOf m d L) 0 32) (runSum (wordsOf m d L) 1 32) (runSum (wordsOf m d L) 2 32) (runSum (wordsOf m d L) 3 32) (runSum (wordsOf m d L) 4 32) (runSum (wordsOf m d L) 5 32) (runSum (wordsOf m d L) 6 32) (runSum (wordsOf m d L) 7 32)) inpos_S1_p0)
      (extractAt ![0] (k0_pay34 (runSum (wordsOf m d L) 0 32) (runSum (wordsOf m d L) 1 32) (runSum (wordsOf m d L) 2 32) (runSum (wordsOf m d L) 3 32) (runSum (wordsOf m d L) 4 32) (runSum (wordsOf m d L) 5 32) (runSum (wordsOf m d L) 6 32) (runSum (wordsOf m d L) 7 32)) inpos_S1_p0)
      (extractAt ![0] (k0_pay35 (runSum (wordsOf m d L) 0 32) (runSum (wordsOf m d L) 1 32) (runSum (wordsOf m d L) 2 32) (runSum (wordsOf m d L) 3 32) (runSum (wordsOf m d L) 4 32) (runSum (wordsOf m d L) 5 32) (runSum (wordsOf m d L) 6 32) (runSum (wordsOf m d L) 7 32)) inpos_S1_p0)
      (extractAt ![0] (k0_pay36 (runSum (wordsOf m d L) 0 32) (runSum (wordsOf m d L) 1 32) (runSum (wordsOf m d L) 2 32) (runSum (wordsOf m d L) 3 32) (runSum (wordsOf m d L) 4 32) (runSum (wordsOf m d L) 5 32) (runSum (wordsOf m d L) 6 32) (runSum (wordsOf m d L) 7 32)) inpos_S1_p0)
      (extractAt ![0] (k0_pay37 (runSum (wordsOf m d L) 0 32) (runSum (wordsOf m d L) 1 32) (runSum (wordsOf m d L) 2 32) (runSum (wordsOf m d L) 3 32) (runSum (wordsOf m d L) 4 32) (runSum (wordsOf m d L) 5 32) (runSum (wordsOf m d L) 6 32) (runSum (wordsOf m d L) 7 32)) inpos_S1_p0)
      (extractAt ![0] (k0_pay38 (runSum (wordsOf m d L) 0 32) (runSum (wordsOf m d L) 1 32) (runSum (wordsOf m d L) 2 32) (runSum (wordsOf m d L) 3 32) (runSum (wordsOf m d L) 4 32) (runSum (wordsOf m d L) 5 32) (runSum (wordsOf m d L) 6 32) (runSum (wordsOf m d L) 7 32)) inpos_S1_p0)
      (extractAt ![0] (k0_pay39 (runSum (wordsOf m d L) 0 32) (runSum (wordsOf m d L) 1 32) (runSum (wordsOf m d L) 2 32) (runSum (wordsOf m d L) 3 32) (runSum (wordsOf m d L) 4 32) (runSum (wordsOf m d L) 5 32) (runSum (wordsOf m d L) 6 32) (runSum (wordsOf m d L) 7 32)) inpos_S1_p0)
      (extractAt ![0] (k0_pay40 (runSum (wordsOf m d L) 0 32) (runSum (wordsOf m d L) 1 32) (runSum (wordsOf m d L) 2 32) (runSum (wordsOf m d L) 3 32) (runSum (wordsOf m d L) 4 32) (runSum (wordsOf m d L) 5 32) (runSum (wordsOf m d L) 6 32) (runSum (wordsOf m d L) 7 32)) inpos_S1_p0)
      (extractAt ![0] (k0_pay41 (runSum (wordsOf m d L) 0 32) (runSum (wordsOf m d L) 1 32) (runSum (wordsOf m d L) 2 32) (runSum (wordsOf m d L) 3 32) (runSum (wordsOf m d L) 4 32) (runSum (wordsOf m d L) 5 32) (runSum (wordsOf m d L) 6 32) (runSum (wordsOf m d L) 7 32)) inpos_S1_p0)
      (extractAt ![0] (k0_pay1 (k0_pay27 (runSum (wordsOf m d L) 0 32) (runSum (wordsOf m d L) 1 32) (runSum (wordsOf m d L) 2 32) (runSum (wordsOf m d L) 3 32) (runSum (wordsOf m d L) 4 32) (runSum (wordsOf m d L) 5 32) (runSum (wordsOf m d L) 6 32) (runSum (wordsOf m d L) 7 32))) inpos_S1_p0)
      (extractAt ![0] (k0_pay2 (k0_pay27 (runSum (wordsOf m d L) 0 32) (runSum (wordsOf m d L) 1 32) (runSum (wordsOf m d L) 2 32) (runSum (wordsOf m d L) 3 32) (runSum (wordsOf m d L) 4 32) (runSum (wordsOf m d L) 5 32) (runSum (wordsOf m d L) 6 32) (runSum (wordsOf m d L) 7 32))) inpos_S1_p0) :=
  chk_of m d L hpre _ (off5_lanes m d L hpre)

/-! ## The row the tile copies -/

/-- Lane `k` of the last token of the tile's sequence. -/
def lastTok (k : Fin 1024) : Elt F .f32 := (flat m d : S65536x1024.Idx → Elt F .f32) (ix2 (Fin.ofNat 65536 (rowOf m d (jL L))) k)

/-- A read of the flat table's row at those offsets is the last token. -/
theorem read_row (hpre : RowsOK m) (off : Fin 2 → ℕ) (inb : ∀ a, off a + S1x1024.size a ≤ S65536x1024.size a) (h : off = ![rowOf m d (jL L), 0])
    (y : S1x1024.Idx) :
    ((fV).slice (Rect.unit (s := S65536x1024) off S1x1024.size inb) (fun _ => rfl)).view.read (Elt F) (flat m d) y = lastTok m d L (y 1) := by
  subst h
  have hr := rowOf_lt m d hpre (jL L)
  have h0 : (y 0).val = 0 := by have : (y 0).val < 1 := (y 0).isLt; omega
  have e : (Rect.unit (s := S65536x1024) ![rowOf m d (jL L), 0] S1x1024.size inb).emb y
      = (ix2 (Fin.ofNat 65536 (rowOf m d (jL L))) (y 1) : S65536x1024.Idx) := by
    funext a
    apply Fin.ext
    match a with
    | 0 =>
      show rowOf m d (jL L) + 1 * (y 0).val = rowOf m d (jL L) % 65536
      rw [h0, Nat.mod_eq_of_lt hr]; omega
    | 1 => show 0 + 1 * (y 1).val = (y 1).val; omega
  exact congrArg (flat m d) e

/-- Contents written whole to the row scratch read back as written. -/
theorem read_rV (f : (rV).view.ty.Contents (Elt F)) (p : S1x1024.Idx → Elt F .f32) (y : S1x1024.Idx) :
    (rV).view.read (Elt F) (View.write (Elt F) (rV).view f p Finset.univ) y = p y := by
  rw [View.write_whole_univ]; rfl

/-- The row of the result read at a position is the result at the place where that position lies. -/
theorem read_oRow (f : (oRowK L).view.ty.Contents (Elt F)) (y : S1x1024.Idx) : (oRowK L).view.read (Elt F) f y = f ((oRowK L).view.emb y) := rfl

/-- Where a position of the row lies in the result. -/
theorem emb_oRow (y : S1x1024.Idx) : ((oRowK L).view.emb y : S16x1024.Idx) = ix2 (jL L) (y 1) := by
  have h0 : (y 0).val = 0 := by have : (y 0).val < 1 := (y 0).isLt; omega
  funext a
  apply Fin.ext
  refine (Rect.emb_apply (r := orowK L) y a).trans ?_
  match a with
  | 0 =>
    show k0_off6 L 0 + 1 * (y 0).val = (L 1).val
    rw [k0_off6_eq, h0]; rfl
  | 1 =>
    show k0_off6 L 1 + 1 * (y 1).val = (y 1).val
    rw [k0_off6_eq]; show 0 + 1 * (y 1).val = _; omega

/-- Row `w` of `outVal` is the last token's row. -/
theorem outVal_row (k : Fin 1024) : outVal m d (ix2 (jL L) k : S16x1024.Idx) = lastTok m d L k := rfl

/-- After the last copy, the tile's row of the result is `outVal`. -/
theorem row_landed (f : (oRowK L).view.ty.Contents (Elt F)) (p : S1x1024.Idx → Elt F .f32) (hp : ∀ y, p y = lastTok m d L (y 1))
    (j : S16x1024.Idx) (hj : j ∈ (oRowK L).view.set) :
    (oRowK L).view.writes (Elt F) f [⟨Rect.whole S1x1024, p⟩] j = outVal m d j := by
  obtain ⟨y, -, rfl⟩ := Finset.mem_map.mp hj
  refine ((read_oRow L _ y).symm.trans (written_at (oRowK L) f p y)).trans ((hp y).trans ?_)
  rw [emb_oRow]
  exact (outVal_row m d L (y 1)).symm

end Cert.Proof.Launch

end
-- ==== Proof.Loops.lean ====
/-
  The two loops of a tile: each trip loads eight pieces of the mask scratch and adds them to the eight running sums.
-/
module

public import proofs.«01_k».proof.Proof.Values

@[expose] public section

noncomputable section

namespace Cert.Proof.Launch

open Cert.KernelIdeal Cert.KernelIdeal.Gen

open Idealize.ShloMosaic
open Idealize.ShloMosaic.ValueIdx (ix1 ix2 ix3)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Sums

variable {F : FTy → Type}

local notation "𝕄" => MT nD τ sig (HIx 1) (Elt F) ℕ UU ℕ
local notation "fV" => (Memref.whole Cert.KernelIdeal.main_v0_scv : Memref Cert.KernelIdeal.sig Kind.scVector Space.hbm Cert.KernelIdeal.S65536x1024 EltTy.f32)
local notation "mV" => (Memref.whole Cert.KernelIdeal.main_arg1_scv : Memref Cert.KernelIdeal.sig Kind.scVector Space.hbm Cert.KernelIdeal.S16x4096 EltTy.i32)
local notation "oV" => (Memref.whole Cert.KernelIdeal.main_v1_scv : Memref Cert.KernelIdeal.sig Kind.scVector Space.hbm Cert.KernelIdeal.S16x1024 EltTy.f32)
local notation "sV" => (Memref.whole Cert.KernelIdeal.cc0_scratch0 : Memref Cert.KernelIdeal.sig Kind.scVector Space.vmem Cert.KernelIdeal.S4096 EltTy.i32)
local notation "rV" => (Memref.whole Cert.KernelIdeal.cc0_scratch1 : Memref Cert.KernelIdeal.sig Kind.scVector Space.vmem Cert.KernelIdeal.S1x1024 EltTy.f32)

variable (m : (ℓ : Loc nD τ sig) → Buf (Elt F) ℓ) [FloatOps F] (d : Dev nD) (L : grid0.Coords)

/-- The low half's words, in the two ways they are spelt. -/
theorem set_loK : (loK).view.set = (sV).view.setOn (loR).set := View.set_slice _ _
/-- The high half's words, in the two ways they are spelt. -/
theorem set_hiK : (hiK).view.set = (sV).view.setOn (hiR).set := View.set_slice _ _

/-- The first half of the scratch after its fetch, as the first loop holds it. -/
theorem pts_lo (fs : (loK).view.ty.Contents (Elt F)) (p : S2048.Idx → Elt F .i32) (hp : ∀ y, p y = wordsOf m d L (y 0).val) :
    ((loK).view.loc (V d (cV L) (jV L)) ↦[(loK).view.set]{fullShare} (loK).view.writes (Elt F) fs [⟨Rect.whole S2048, p⟩] : sProp 𝕄)
      = (sV).view.loc (V d (cV L) (jV L)) ↦[(sV).view.setOn (loR).set]{fullShare} rowBuf m d L := by
  rw [← set_loK]
  exact pointsTo_congr (lo_landed m d L fs p hp)

/-- The second half of the scratch after its fetch, as the second loop holds it. -/
theorem pts_hi (fs : (hiK).view.ty.Contents (Elt F)) (p : S2048.Idx → Elt F .i32) (hp : ∀ y, p y = wordsOf m d L (2048 + (y 0).val)) :
    ((hiK).view.loc (V d (cV L) (jV L)) ↦[(hiK).view.set]{fullShare} (hiK).view.writes (Elt F) fs [⟨Rect.whole S2048, p⟩] : sProp 𝕄)
      = (sV).view.loc (V d (cV L) (jV L)) ↦[(sV).view.setOn (hiR).set]{fullShare} rowBuf m d L := by
  rw [← set_hiK]
  exact pointsTo_congr (hi_landed m d L fs p hp)

/-- The tile's row of the result after the last copy, as the launch takes it back. -/
theorem pts_row (f : (oRowK L).view.ty.Contents (Elt F)) (p : S1x1024.Idx → Elt F .f32) (hp : ∀ y, p y = lastTok m d L (y 1)) :
    ((oRowK L).view.loc (V d (cV L) (jV L)) ↦[(oRowK L).view.set]{fullShare} (oRowK L).view.writes (Elt F) f [⟨Rect.whole S1x1024, p⟩] : sProp 𝕄)
      = oLoc d ↦[oRowSet (jL L)]{fullShare} outVal m d := by
  rw [← set_oRowK]
  exact pointsTo_congr (row_landed m d L f p hp)

/-- The two halves of the scratch are the whole of it. -/
theorem pts_halves :
    iprop(((sV).view.loc (V d (cV L) (jV L)) ↦[(sV).view.setOn (loR).set]{fullShare} rowBuf m d L)
        ∗ (sV).view.loc (V d (cV L) (jV L)) ↦[(sV).view.setOn (hiR).set]{fullShare} rowBuf m d L)
      ⊢ ((V d (cV L) (jV L)).loc cc0_scratch0 ↦{fullShare} rowBuf m d L : sProp 𝕄) := by
  rw [← set_loK, ← set_hiK]
  exact (pts_sV (F := F) d L _).2

/-- Before trip `k` of the first loop: the first half of the scratch holds the row's first half, and the running sums are
    those after `k` trips. -/
def inv1 (k : ℕ) (acc : Acc) : sProp 𝕄 :=
  iprop(⌜acc = sums (wordsOf m d L) k⌝ ∗ (sV).view.loc (V d (cV L) (jV L)) ↦[(sV).view.setOn (loR).set]{fullShare} rowBuf m d L)

/-- Before trip `k` of the second loop, likewise over the second half; sixteen trips went before. -/
def inv2 (k : ℕ) (acc : Acc) : sProp 𝕄 :=
  iprop(⌜acc = sums (wordsOf m d L) (16 + k)⌝ ∗ (sV).view.loc (V d (cV L) (jV L)) ↦[(sV).view.setOn (hiR).set]{fullShare} rowBuf m d L)

/-- The first loop's trips are numbered below 16. -/
theorem trips1 (k : Fin k0_t1_loop.trips) : k.val < 16 := lt_of_lt_of_le k.isLt k0_t1_abs.2.1
/-- The first loop makes 16 trips. -/
theorem trips1_eq : k0_t1_loop.trips = 16 := by decide
/-- The second loop makes 16 trips. -/
theorem trips2_eq : k0_t2_loop.trips = 16 := by decide
/-- The second loop's trips are numbered below 16. -/
theorem trips2 (k : Fin k0_t2_loop.trips) : k.val < 16 := lt_of_lt_of_le k.isLt k0_t2_abs.2.1

set_option maxHeartbeats 4000000 in
/-- One trip of the first loop adds its eight pieces. -/
theorem trip1 (k : Fin k0_t1_loop.trips) (acc : Acc) :
    inv1 m d L k.val acc ⊢ wp frame (wpE (defs₀ (F := F)) 𝒱₀ (V d (cV L) (jV L)) none) Set.univ
      (k0_t1_body L fV (Memref.isWhole_whole _) mV (Memref.isWhole_whole _) oV (Memref.isWhole_whole _)
            sV (Memref.isWhole_whole _) rV (Memref.isWhole_whole _) cc0_scratch2 cc0_scratch3 cc0_scoped0 cc0_scoped1 k acc)
      (inv1 m d L (k.val + 1)) := by
  obtain ⟨a0, a1, a2, a3, a4, a5, a6, a7⟩ := acc
  unfold k0_t1_body
  simp only [k0_part1_eq_skeleton]
  unfold k0_part1_skel inv1
  iintro ⟨%hacc, Hs⟩
  have hk := trips1 k
  sl_exec
  simp only [sums, Prod.mk.injEq] at hacc
  obtain ⟨rfl, rfl, rfl, rfl, rfl, rfl, rfl, rfl⟩ := hacc
  sl_step
  isplitl []
  · ipureintro
    refine Prod.ext (add_piece m d L _ _ 0 k.val (k0_off3_eq k 0)) (Prod.ext (add_piece m d L _ _ 1 k.val (k0_off3_eq k 1))
      (Prod.ext (add_piece m d L _ _ 2 k.val (k0_off3_eq k 2)) (Prod.ext (add_piece m d L _ _ 3 k.val (k0_off3_eq k 3))
      (Prod.ext (add_piece m d L _ _ 4 k.val (k0_off3_eq k 4)) (Prod.ext (add_piece m d L _ _ 5 k.val (k0_off3_eq k 5))
      (Prod.ext (add_piece m d L _ _ 6 k.val (k0_off3_eq k 6)) (add_piece m d L _ _ 7 k.val (k0_off3_eq k 7))))))))
  · iexact Hs

/-- Trip `k` of the second loop is trip `16 + k` over the row. -/
theorem off2 (r k : ℕ) : (![128 * k + 16 * r + 2048] : Fin 1 → ℕ) = ![128 * (16 + k) + 16 * r] := by congr 1; omega

set_option maxHeartbeats 4000000 in
/-- One trip of the second loop adds its eight pieces. -/
theorem trip2 (v0 v1 v2 v3 v4 v5 v6 v7 : IVec S16 32) (k : Fin k0_t2_loop.trips) (acc : Acc) :
    inv2 m d L k.val acc ⊢ wp frame (wpE (defs₀ (F := F)) 𝒱₀ (V d (cV L) (jV L)) none) Set.univ
      (k0_t2_body L fV (Memref.isWhole_whole _) mV (Memref.isWhole_whole _) oV (Memref.isWhole_whole _)
            sV (Memref.isWhole_whole _) rV (Memref.isWhole_whole _) cc0_scratch2 cc0_scratch3 cc0_scoped0 cc0_scoped1 v0 v1 v2 v3 v4 v5 v6 v7 k acc)
      (inv2 m d L (k.val + 1)) := by
  obtain ⟨a0, a1, a2, a3, a4, a5, a6, a7⟩ := acc
  unfold k0_t2_body
  simp only [k0_part2_eq_skeleton]
  unfold k0_part2_skel inv2
  iintro ⟨%hacc, Hs⟩
  have hk := trips2 k
  sl_exec
  simp only [sums, Prod.mk.injEq] at hacc
  obtain ⟨rfl, rfl, rfl, rfl, rfl, rfl, rfl, rfl⟩ := hacc
  sl_step
  isplitl []
  · ipureintro
    refine Prod.ext (add_piece m d L _ _ 0 (16 + k.val) ((k0_off4_eq k 0).trans (off2 0 k.val))) (Prod.ext (add_piece m d L _ _ 1 (16 + k.val) ((k0_off4_eq k 1).trans (off2 1 k.val)))
      (Prod.ext (add_piece m d L _ _ 2 (16 + k.val) ((k0_off4_eq k 2).trans (off2 2 k.val))) (Prod.ext (add_piece m d L _ _ 3 (16 + k.val) ((k0_off4_eq k 3).trans (off2 3 k.val)))
      (Prod.ext (add_piece m d L _ _ 4 (16 + k.val) ((k0_off4_eq k 4).trans (off2 4 k.val))) (Prod.ext (add_piece m d L _ _ 5 (16 + k.val) ((k0_off4_eq k 5).trans (off2 5 k.val)))
      (Prod.ext (add_piece m d L _ _ 6 (16 + k.val) ((k0_off4_eq k 6).trans (off2 6 k.val))) (add_piece m d L _ _ 7 (16 + k.val) ((k0_off4_eq k 7).trans (off2 7 k.val)))))))))
  · iexact Hs

end Cert.Proof.Launch

end
-- ==== Proof.Tile.lean ====
/-
  What one tile does (`tile_body`). From its shares of the flat table and of the mask, row `w` of the result, and its own
  scratch buffers and semaphores, tile `w` brings the two halves of row `w` of the mask in, adds the row up, copies row
  `rowOf w` of the flat table to its row buffer, and from there to row `w` of the result: the shares come back as they
  were, and the row holds `outVal`.
-/
module

public import proofs.«01_k».proof.Proof.Loops

@[expose] public section

noncomputable section

namespace Cert.Proof.Launch

open Cert.KernelIdeal Cert.KernelIdeal.Gen

open Idealize.ShloMosaic
open Idealize.ShloMosaic.ValueIdx (ix1 ix2 ix3)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ
local notation "fV" => (Memref.whole Cert.KernelIdeal.main_v0_scv : Memref Cert.KernelIdeal.sig Kind.scVector Space.hbm Cert.KernelIdeal.S65536x1024 EltTy.f32)
local notation "mV" => (Memref.whole Cert.KernelIdeal.main_arg1_scv : Memref Cert.KernelIdeal.sig Kind.scVector Space.hbm Cert.KernelIdeal.S16x4096 EltTy.i32)
local notation "oV" => (Memref.whole Cert.KernelIdeal.main_v1_scv : Memref Cert.KernelIdeal.sig Kind.scVector Space.hbm Cert.KernelIdeal.S16x1024 EltTy.f32)
local notation "sV" => (Memref.whole Cert.KernelIdeal.cc0_scratch0 : Memref Cert.KernelIdeal.sig Kind.scVector Space.vmem Cert.KernelIdeal.S4096 EltTy.i32)
local notation "rV" => (Memref.whole Cert.KernelIdeal.cc0_scratch1 : Memref Cert.KernelIdeal.sig Kind.scVector Space.vmem Cert.KernelIdeal.S1x1024 EltTy.f32)

variable (m : (ℓ : Loc nD τ sig) → Buf (Elt F) ℓ) [FloatOps F] (d : Dev nD) (L : grid0.Coords)

set_option maxHeartbeats 400000 in
/-- One tile's run: it does not fault, gives back its shares, scratch buffers and semaphores, and leaves its row of the result
    at `outVal`. The one check in the body, that the row it copies lies in the flat table, holds by `RowsOK`. -/
theorem tile_body (hF : (K (F := F)).Facts) (hpre : RowsOK m) (O : CellTallies nD τ sig (HIx 1)) (W : Waits sig (HIx 1)) (hO : ∀ g, O g none = 0) :
    iprop(levAts (K (F := F)).L (K (F := F)).lev ∗ emp
        ∗ (fShPts m d (jL L) ∗ mShPts m d (jL L) ∗ oRowPts d (jL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__last_token_body L fV (Memref.isWhole_whole _) mV (Memref.isWhole_whole _) oV (Memref.isWhole_whole _)
            sV (Memref.isWhole_whole _) rV (Memref.isWhole_whole _) cc0_scratch2 cc0_scratch3 cc0_scoped0 cc0_scoped1)
          fun _ => iprop((fShPts m d (jL L) ∗ mShPts m d (jL L) ∗ oRowPts d (jL L) (outVal m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__last_token_body_eq_skeleton]; unfold cc0__last_token_body_skel
  simp only [k0_part3_eq_skeleton, k0_part4_eq_skeleton]; unfold k0_part3_skel k0_part4_skel
  rw [(K (F := F)).scopedBufs_V hF d (cV L) (jV L), SparseCore.Cfg.scopedSems0_V (Val := Elt F) d (cV L) (jV L), ownSems0_V, ownBufs_V]
  iintro ⟨#Hlv, -, ⟨Hf, Hm, Ho⟩, ⟨⟨%fs, Hs⟩, ⟨%fr, Hr⟩, Hbufs⟩, ⟨HsA, HsB, HsC, HsD, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho' := (Entails.of_eq (pts_oRowK (F := F) d L _).symm) $$ Ho
  ihave Hf' := (Entails.of_eq (pts_fV (F := F) d L _ _).symm) $$ Hf
  ihave Hr' := (Entails.of_eq (pts_rV (F := F) d L _).symm) $$ Hr
  ihave Hm' := (pts_mV (F := F) d L _ _).1 $$ Hm
  ihave Hs' := (pts_sV (F := F) d L _).1 $$ Hs
  icases Hm' with ⟨Hma, Hmb, Hmr⟩
  icases Hs' with ⟨Hlo, Hhi⟩
  sl_exec
  have hdma : ∀ y, tile_body.sl.dma0 m d L y = wordsOf m d L (y 0).val := by
    intro y; unfold tile_body.sl.dma0; exact read_a m d L y
  ihave Hs1 := (Entails.of_eq (pts_lo m d L fs (tile_body.sl.dma0 m d L) hdma)) $$ Hlo
  simp (config := { iota := false, proj := false, eta := false }) only [Prog.bind_assoc]
  sl_for (inv1 m d L) $$ [Hs1]
  case region => exact fun k acc => trip1 m d L k acc
  · unfold inv1
    isplitr
    · ipureintro; exact sums_zero _
    · iexact Hs1
  iintro %acc HI
  unfold inv1
  icases HI with ⟨%hacc, Hs1⟩
  obtain rfl : acc = sums (wordsOf m d L) 16 := hacc.trans (congrArg _ trips1_eq)
  sl_exec
  have hdma' : ∀ y, tile_body.sl.dma0_1 m d L y = wordsOf m d L (2048 + (y 0).val) := by
    intro y; unfold tile_body.sl.dma0_1; exact read_b m d L y
  ihave Hs2 := (Entails.of_eq (pts_hi m d L _ (tile_body.sl.dma0_1 m d L) hdma')) $$ Hhi
  sl_for (inv2 m d L) $$ [Hs2]
  case region => exact fun k acc => trip2 m d L _ _ _ _ _ _ _ _ k acc
  · unfold inv2
    isplitr
    · ipureintro; exact congrArg (sums (wordsOf m d L)) (Nat.add_zero 16).symm
    · iexact Hs2
  iintro %acc HI
  unfold inv2
  icases HI with ⟨%hacc, Hs2⟩
  have e2 : 16 + Scf.trips k0_t2_loop.lb k0_t2_loop.ub k0_t2_loop.st = 32 := by decide
  rw [e2] at hacc
  subst hacc
  unfold sums
  sl_exec (disch := exact chk_lanes m d L hpre)
  have hrow : ∀ y, tile_body.sl.dma0_3 m d L hpre fr y = lastTok m d L (y 1) := by
    intro y
    unfold tile_body.sl.dma0_3
    refine (read_rV fr _ y).trans ?_
    unfold tile_body.sl.dma0_2
    exact read_row m d L hpre _ _ (off5_lanes m d L hpre) y
  ihave Ho2 := (Entails.of_eq (pts_row m d L (m (oLoc d)) (tile_body.sl.dma0_3 m d L hpre fr) hrow)) $$ Ho'
  ihave Hm' := (pointsTo_split_subset (ℓ := mLoc d) (q := rq (jL L)) (f := m (mLoc d)) (Finset.subset_univ (aK L).view.set)).2 $$ [Hma Hmr]
  · isplitl [Hma]; · iexact Hma
    iexact Hmr
  ihave Hsf := (pts_halves m d L) $$ [Hs1 Hs2]
  · isplitl [Hs1]; · iexact Hs1
    iexact Hs2
  sl_step
  isplitl [Hf' Hm' Ho2]
  · isplitl [Hf']; · iapply (Entails.of_eq (pts_fV (F := F) d L _ _)); iexact Hf'
    isplitl [Hm']; · iexact Hm'
    iexact Ho2
  isplitl [Hsf Hr' Hbufs]
  · isplitl [Hsf]; · iexists _; iexact Hsf
    isplitl [Hr']; · iexists _; iapply (Entails.of_eq (pts_rV (F := F) d L _)); iexact Hr'
    iexact Hbufs
  isplitl [HsA HsB HsC HsD Hsems]
  · isplitl [HsA]; · iexact HsA
    isplitl [HsB]; · iexact HsB
    isplitl [HsC]; · iexact HsC
    isplitl [HsD]; · iexact HsD
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Proof.Launch

end
-- ==== Proof.Launch.lean ====
/-
  The whole program's run (`run_main`). @main reshapes `x` to the flat table and makes the one call; the call deals the
  flat table and the mask out in sixteen shares and the result in its sixteen rows, runs `tile_body` on every tile, and
  joins what comes back. In the end `x` and the mask are as they were, the result holds `outVal`, and every semaphore is
  at zero. All of it over any float values.
-/
module

public import proofs.«01_k».proof.Proof.Tile

@[expose] public section

noncomputable section

namespace Cert.Proof.Launch

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Rounds
open Idealize.ShloMosaic.Tactic

variable {F : FTy → Type}

local notation "𝕄" => MT nD τ sig (HIx 1) (Elt F) ℕ UU ℕ
local notation "fV" => (Memref.whole Cert.KernelIdeal.main_v0_scv : Memref Cert.KernelIdeal.sig Kind.scVector Space.hbm Cert.KernelIdeal.S65536x1024 EltTy.f32)
local notation "mV" => (Memref.whole Cert.KernelIdeal.main_arg1_scv : Memref Cert.KernelIdeal.sig Kind.scVector Space.hbm Cert.KernelIdeal.S16x4096 EltTy.i32)
local notation "oV" => (Memref.whole Cert.KernelIdeal.main_v1_scv : Memref Cert.KernelIdeal.sig Kind.scVector Space.hbm Cert.KernelIdeal.S16x1024 EltTy.f32)
local notation "sV" => (Memref.whole Cert.KernelIdeal.cc0_scratch0 : Memref Cert.KernelIdeal.sig Kind.scVector Space.vmem Cert.KernelIdeal.S4096 EltTy.i32)
local notation "rV" => (Memref.whole Cert.KernelIdeal.cc0_scratch1 : Memref Cert.KernelIdeal.sig Kind.scVector Space.vmem Cert.KernelIdeal.S1x1024 EltTy.f32)

variable (m : (ℓ : Loc nD τ sig) → Buf (Elt F) ℓ) (ρ : Dev nD → PrngReg) [FloatOps F]

/-! ## Each tile meets its part of the call -/

/-- The grid position of SparseCore `c`'s tile `s`. -/
def coordsV (c : Fin (grid0.bound 0)) (s : Fin (grid0.bound 1)) : grid0.Coords :=
  fun | 0 => c | 1 => s | ⟨_ + 2, h⟩ => absurd h (Nat.not_lt.2 (Nat.le_add_left _ _))

/-- What a tile is called to run: the body at its grid position. -/
theorem defs₀_vector (c : Fin τ.nSC) (s : Fin τ.nSub) :
    defs₀ (F := F) (.scVector c s) 0 ()
      = SparseCore.onTile hcore0 hsub0 (fun c s => cc0__last_token_body (coordsV c s)
          fV (Memref.isWhole_whole _) mV (Memref.isWhole_whole _) oV (Memref.isWhole_whole _)
          sV (Memref.isWhole_whole _) rV (Memref.isWhole_whole _) cc0_scratch2 cc0_scratch3 cc0_scoped0 cc0_scoped1) ⟨⟩ c s := rfl

omit [FloatOps F] in
/-- A body's waits all at the launch's own level are among those the call allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile of the call runs the body from what it is handed to what it hands back. -/
theorem tileObl (hF : (K (F := F)).Facts) (hpre : RowsOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-! ## The result splits into its rows, the arrays read into shares -/

omit [FloatOps F] in
theorem oRowSet_eq (i : Fin 16) : oRowSet i = (orow i).set := by
  show ((View.whole (main_v1_scv : Ref sig .scVector)).slice (orow i)).set = _
  rw [View.set_slice]; exact Finset.map_refl

omit [FloatOps F] in
/-- Two rows of the result have no element in common. -/
theorem orows_disjoint : ∀ i ∈ (Finset.univ : Finset (Fin 16)), ∀ j ∈ (Finset.univ : Finset (Fin 16)), i ≠ j → Disjoint (oRowSet i) (oRowSet j) :=
  fun i _ j _ h => by rw [oRowSet_eq, oRowSet_eq]; exact Rect.part_disjoint odiv h

omit [FloatOps F] in
/-- The sixteen rows are the whole result. -/
theorem orows_cover : (Finset.univ : Finset (Fin 16)).biUnion oRowSet = Finset.univ :=
  (Finset.biUnion_congr rfl fun i _ => oRowSet_eq i).trans (Rect.biUnion_part odiv)

omit [FloatOps F] in
/-- The result whole is its sixteen rows. -/
theorem oPts_rows (d : Dev nD) (f : Buf (Elt F) (oLoc d)) :
    (oLoc d ↦{fullShare} f : sProp 𝕄) = bigSep Finset.univ fun i : Fin 16 => oLoc d ↦[oRowSet i]{fullShare} f := by
  rw [← pointsTo_biUnion Finset.univ (ℓ := oLoc d) oRowSet orows_disjoint, orows_cover]; try rfl

omit [FloatOps F] in
/-- An array whole is its sixteen shares. -/
theorem pts_shares (ℓ : Loc nD τ sig) (f : Buf (Elt F) ℓ) :
    (ℓ ↦{fullShare} f : sProp 𝕄) = bigSep Finset.univ fun i : Fin 16 => ℓ ↦{rq i} f :=
  Transfers.pointsTo_deal Finset.univ ⟨0, Finset.mem_univ _⟩ fullShare

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- What the call takes is what the tiles are handed, and what they hand back is what the call brings back. -/
theorem vecSplit : (K (F := F)).VecSplit' (P m) 0 := by
  intro d c
  show iprop(fPts m d ∗ mPts m d ∗ oPts d (m (oLoc d))) ⊢ |={Set.univ}=> iprop(
      (bigSep Finset.univ fun i : Fin ((K (F := F)).nSub 0) =>
        iprop(fShPts m d (Fin.cast nSub_zero i) ∗ mShPts m d (Fin.cast nSub_zero i) ∗ oRowPts d (Fin.cast nSub_zero i) (m (oLoc d))))
      ∗ ((bigSep Finset.univ fun i : Fin ((K (F := F)).nSub 0) =>
          iprop(fShPts m d (Fin.cast nSub_zero i) ∗ mShPts m d (Fin.cast nSub_zero i) ∗ oRowPts d (Fin.cast nSub_zero i) (outVal m d)))
          -∗ iprop(fPts m d ∗ mPts m d ∗ oPts d (outVal m d))))
  rw [bigSep_tasks (F := F) (fun i => iprop(fShPts m d i ∗ mShPts m d i ∗ oRowPts d i (m (oLoc d)))),
    bigSep_tasks (F := F) (fun i => iprop(fShPts m d i ∗ mShPts m d i ∗ oRowPts d i (outVal m d))), bigSep_sep', bigSep_sep', bigSep_sep', bigSep_sep']
  unfold fPts mPts oPts fShPts mShPts oRowPts
  rw [pts_shares (fLoc d), pts_shares (mLoc d), oPts_rows d (m (oLoc d)), oPts_rows d (outVal m d)]
  iintro H; imodintro
  isplitl [H]; · iexact H
  iintro H; iexact H

/-! ## The ghost state at the launch -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

/-- It holds the handshakes' rounds; the kernel needs nothing else. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev x' : DevRef τ sig := Proc.devRef .tc (main_arg0 : Ref sig .tc)
abbrev k' : DevRef τ sig := Proc.devRef .tc (main_arg1 : Ref sig .tc)
abbrev f' : DevRef τ sig := Proc.devRef .tc (main_v0 : Ref sig .tc)
abbrev o' : DevRef τ sig := Proc.devRef .tc (main_v1 : Ref sig .tc)

/-- The reshape that makes the flat table. -/
abbrev opFlat : HloOp τ sig (Elt F) :=
  StableHlo.reshape main_arg0 main_v0 (rfl : (.f32 : EltTy) = .f32) shapeCasts_S16x4096x1024_S65536x1024

/-- The TensorCore's arrays: `x`, the mask, the flat table, the result. -/
abbrev S4 : Finset (DevRef τ sig) := {x', k', f', o'}

omit [FloatOps F] in
theorem held_S4 (d : Dev nD) (W : Valuation τ sig (Elt F)) :
    (held (T d) S4 W : sProp 𝕄)
      = iprop((xLoc d ↦{fullShare} W x') ∗ (mLoc d ↦{fullShare} W k') ∗ (fLoc d ↦{fullShare} W f') ∗ oLoc d ↦{fullShare} W o') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((xLoc d ↦{fullShare} W main_arg0) ∗ (mLoc d ↦{fullShare} W main_arg1) ∗ (fLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The arrays at the launch. -/
def V0 (d : Dev nD) : Valuation τ sig (Elt F) := fun b => m (d, b)

theorem unscoped_held (d : Dev nD) : (unscopedBufs d (fun b => m ((SparseCore.T d).loc b)) : sProp 𝕄) = held (T d) S4 (V0 m d) := by
  rw [unscopedBufs_eq, held_S4]; rfl

/-- The reshape leaves the flat table at `flat`. -/
theorem flat_result (d : Dev nD) : (opFlat (F := F)).result (V0 m d) f' = flat m d := by
  rw [StableHlo.reshape_result]; rfl

/-- After the reshape: the flat table at `flat`, the others as they were. -/
theorem held_flat (d : Dev nD) :
    (held (T d) S4 ((opFlat (F := F)).result (V0 m d)) : sProp 𝕄) = iprop(xPts m d ∗ mPts m d ∗ fPts m d ∗ oPts d (m (oLoc d))) := by
  rw [held_S4, flat_result,
    (opFlat (F := F)).result_of_not_mem (V0 m d) (b := x') (show x' ∉ ({f'} : Finset (DevRef τ sig)) by decide),
    (opFlat (F := F)).result_of_not_mem (V0 m d) (b := k') (show k' ∉ ({f'} : Finset (DevRef τ sig)) by decide),
    (opFlat (F := F)).result_of_not_mem (V0 m d) (b := o') (show o' ∉ ({f'} : Finset (DevRef τ sig)) by decide)]
  rfl

theorem hFlat : (opFlat (F := F)).bufs ⊆ S4 := show ({x', f'} : Finset (DevRef τ sig)) ⊆ S4 by decide

theorem st0_eq (d : Dev nD) : (bigSep Finset.univ fun c : Fin ((K (F := F)).nCore 0) => (P m).st 0 d c) = iprop(fPts m d ∗ mPts m d ∗ oPts d (m (oLoc d))) :=
  bigSep_univ_of_subsingleton (0 : Fin 1)
theorem dn0_eq (d : Dev nD) : (bigSep Finset.univ fun c : Fin ((K (F := F)).nCore 0) => (P m).dn 0 d c) = iprop(fPts m d ∗ mPts m d ∗ oPts d (outVal m d)) :=
  bigSep_univ_of_subsingleton (0 : Fin 1)

/-- What @main ends with: `x` and the mask as they were, the result at `outVal`. -/
abbrev FIN (d : Dev nD) : sProp 𝕄 := iprop(xPts m d ∗ mPts m d ∗ oPts d (outVal m d))

/-- @main on device `d`: the reshape, then the call, from the launch's arrays to `FIN`. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opFlat) (S := S4) hFlat (V := V0 m d)) $$ [Hb Hheld]
  · isplitl [Hb]; · iexact Hb
    iexact Hheld
  iintro ⟨Hb, Hheld⟩
  ihave Hh := (Entails.of_eq (held_flat (F := F) m d)) $$ Hheld
  icases Hh with ⟨Hx, Hm, Hf, Ho⟩
  rw [wp_ret]; imodintro
  iapply ((K (F := F)).wp_run (D (F := F)) 𝒱 (EH := EH) (P := P m) κ d 0) $$ [Hst Hx Hm Hf Ho Hb Hts]
  isplitr; · iexact Hctx
  isplitl [Hst]; · iexact Hst
  isplitl [Hm Hf Ho]
  · rw [st0_eq]
    isplitl [Hf]; · iexact Hf
    isplitl [Hm]; · iexact Hm
    iexact Ho
  iintro ⟨Hst, Hdn⟩
  ihave Hdn' := (Entails.of_eq (dn0_eq m d)) $$ Hdn
  icases Hdn' with ⟨-, Hm, Ho⟩
  imodintro
  isplitl [Hst]; · iexact Hst
  isplitr [Hb Hts]
  · isplitl [Hx]; · iexact Hx
    isplitl [Hm]; · iexact Hm
    iexact Ho
  isplitl [Hb] <;> iassumption

/-- What the end of the run says of the memory. -/
def fq (d : Dev nD) (s' : Phys nD τ sig (Elt F)) : Prop :=
  s'.mem.mem (oLoc d) = outVal m d ∧ s'.mem.mem (xLoc d) = m (xLoc d) ∧ s'.mem.mem (mLoc d) = m (mLoc d)

set_option maxRecDepth 16384 in
/-- Holding `FIN`, the memory is as `fq` says. -/
theorem hfin (d : Dev nD) (s' : Phys nD τ sig (Elt F)) : iprop(FIN m d ∗ SI s') ⊢ (⌜fq m d s'⌝ : sProp 𝕄) := by
  iintro ⟨⟨Hx, Hm, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := mLoc d) (I := Finset.univ) (q := fullShare) (f := m (mLoc d)))) $$ [HSI Hm]
  · isplitl [HSI] <;> iassumption
  icases H with ⟨%h2, HSI, -⟩
  ihave H := (SI_pointsTo_agree (st := s') (ℓ := oLoc d) (I := Finset.univ) (q := fullShare) (f := outVal m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- What the end of the run says on every device, with every semaphore at zero. -/
def QC : PUnit × MemSt nD τ sig (Elt F) → Prop := fun r =>
  (∀ c : Dev nD, r.2.mem (oLoc c) = outVal m c ∧ r.2.mem (xLoc c) = m (xLoc c) ∧ r.2.mem (mLoc c) = m (mLoc c)) ∧ r.2.sem = fun _ => 0

/-- Every run of the program from a memory whose mask rows sum to 1 … 4096 ends, without a fault, with the result at `outVal`,
    `x` and the mask unchanged, and every semaphore at zero. -/
theorem run_main [∀ e, Nonempty (Elt F e)] (hpre : RowsOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Launch

end
-- ==== Proof.RowSums.lean ====
/-
  The row sums, as the precondition and the reference form them: an integer sum of the mask along its second axis is, row
  by row, the sum of the row's 4096 words (`reduce_row`). The precondition asks that each lie from 1 to 4096, compared as
  signed words; read back, that is a statement of the words' values (`rows_of_pre`).
-/
module

public import proofs.«01_k».proof.Pre_row_holds_token
public import proofs.«01_k».proof.Proof.Gen.Pre_row_holds_token
public import Idealize.ShloMosaic.Lib.ReduceAll
public import Idealize.ShloMosaic.Lib.WordSum
public import Idealize.ShloMosaic.Lib.ValueIdx
public import Mathlib.Data.BitVec

@[expose] public section

namespace Cert.Proof.RowSums

open Idealize.ShloMosaic
open Idealize.ShloMosaic.ValueIdx (ix1 ix2)

/-- Words added to a word one at a time: the word plus their sum. -/
theorem fold_addi {ι : Type} (s : Finset ι) (a : BitVec 32) (g : ι → BitVec 32) :
    s.fold IntOp.addi a g = a + ∑ i ∈ s, g i := by
  classical
  induction s using Finset.induction_on with
  | empty => simp
  | insert i s hi ih =>
    rw [Finset.fold_insert hi, ih, Finset.sum_insert hi]
    show g i + _ = _
    ring

/-- The sum of a 16 × 4096 array of words along its second axis, from zero, at row `j`: the sum of the row. -/
theorem reduce_row (x : IVec ⟨2, ![16, 4096]⟩ 32) (h : (⟨2, ![16, 4096]⟩ : Shape).ReducesTo [1] ⟨1, ![16]⟩)
    (hu : 0 < (⟨0, ![]⟩ : Shape).numel) (j : (⟨1, ![16]⟩ : Shape).Idx) :
    Host.reduce IntOp.addi x (constantI ⟨0, ![]⟩ 32 0#32) h hu j = ∑ k : Fin 4096, x (ix2 (j 0) k) := by
  have hr : (⟨2, ![16, 4096]⟩ : Shape).Reduces [1] ⟨1, ![16]⟩ := by decide
  rw [Host.reduce_eq_fold_single IntOp.addi x _ h hr hu j, fold_addi]
  refine (zero_add _).trans (Finset.sum_congr rfl fun k _ => congrArg x (funext fun a => ?_))
  match a with
  | ⟨0, _⟩ => exact Fin.ext rfl
  | ⟨1, _⟩ => exact Fin.ext rfl

/-- A word that compares, signed, at least 1 and at most 4096 has a value from 1 to 4096. -/
theorem word_range (v : BitVec 32) (e : IntOp.andi (IntOp.cmpi .sge v 1#32) (IntOp.cmpi .sle v 4096#32) = 1#1) :
    1 ≤ v.toNat ∧ v.toNat ≤ 4096 := by
  have hb : ∀ p q : Bool, IntOp.andi (BitVec.ofBool p) (BitVec.ofBool q) = 1#1 ↔ p = true ∧ q = true := by decide
  simp only [IntOp.cmpi, hb, BitVec.sle_eq_decide, decide_eq_true_eq, BitVec.toInt_eq_toNat_cond, BitVec.toNat_ofNat,
    Nat.reducePow, Nat.reduceMod] at e
  omega

/-- What the precondition says: every row of the mask sums to a number from 1 to 4096. -/
theorem rows_of_pre {F : FTy → Type} [FloatOps F] (x : FVec F ⟨3, ![16, 4096, 1024]⟩ .f32) (k : IVec ⟨2, ![16, 4096]⟩ 32)
    (h : Cert.Pre_row_holds_token.fn (F := F) x k = fun _ => 1#1) (w : Fin 16) :
    1 ≤ (∑ j : Fin 4096, k (ix2 w j)).toNat ∧ (∑ j : Fin 4096, k (ix2 w j)).toNat ≤ 4096 := by
  have e := congrFun h (fun a => a.elim0)
  unfold Cert.Pre_row_holds_token.fn at e
  have : Subsingleton (⟨0, ![]⟩ : Shape).Idx := ⟨fun a b => funext fun i => i.elim0⟩
  have e' := Host.reduce_andi_all _ _ _ _ _ e (ix1 w)
  refine word_range _ ?_
  rw [← reduce_row k (Cert.Pre_row_holds_token.Facts.reducesTo_S16x4096_S16_d1) (Cert.Pre_row_holds_token.Facts.h_S_) (ix1 w)]
  exact e'

end Cert.Proof.RowSums
-- ==== Proof.Reference.lean ====
/-
  What the reference computes. It takes the last token's position `rowSum − 1` in each sequence, pairs it with the
  sequence's number, and gathers: element `(b, c)` of the result is `x[b, rowSum − 1, c]` (`ref_apply`). jax's care of
  negative indices and the gather's clamping of its start do nothing here, since the position lies in the sequence.
-/
module

public import proofs.«01_k».proof.Proof.RowSums
public import proofs.«01_k».proof.Proof.Gen.ReferenceIdeal.Run
public import Idealize.ShloMosaic.Lib.Pipeline.Value

@[expose] public section

noncomputable section

namespace Cert.Proof.Reference

open Cert.ReferenceIdeal Cert.ReferenceIdeal.Gen
open Idealize.ShloMosaic
open Idealize.ShloMosaic.ValueIdx (ix1 ix2 ix3)

variable {α : Type}

/-- The gather's dimension numbers: two start indices per result row, both axes they name collapsed, the last axis kept. -/
abbrev gd : GatherDims S16x4096x1024 S16x2 S16x1024 := gather_S16x4096x1024_S16x2_S16x1024_1_01_n_n_01_1_111024

/-- A gather of rows at pairs of indices: the pair's two words, read signed and clamped to the array, name the row. -/
theorem gather_row (x : S16x4096x1024.Idx → α) (idx : IVec S16x2 32) (b : Fin 16) (c : Fin 1024) :
    Host.gather gd x idx (ix2 b c)
      = x (ix3 ⟨min (idx (ix2 b 0)).toInt.toNat 15, by omega⟩ ⟨min (idx (ix2 b 1)).toInt.toNat 4095, by omega⟩ c) := by
  have h0 : gd.siIdx (ix2 b c) ⟨0, by decide⟩ = ix2 b 0 := by
    funext a
    match a with
    | ⟨0, _⟩ => rfl
    | ⟨1, _⟩ => rfl
  have h1 : gd.siIdx (ix2 b c) ⟨1, by decide⟩ = ix2 b 1 := by
    funext a
    match a with
    | ⟨0, _⟩ => rfl
    | ⟨1, _⟩ => rfl
  unfold Host.gather
  refine congrArg x (funext fun a => Fin.ext ?_)
  show gd.start (ix2 b c) idx a + gd.batchCoord (ix2 b c) a + gd.offCoord (ix2 b c) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (show (0 : Fin 3) ∈ ([0, 1] : List (Fin 3)) by decide)), Nat.add_zero]
    show min (idx (gd.siIdx (ix2 b c) ⟨0, _⟩)).toInt.toNat 15 = _
    rw [h0]
  | ⟨1, _⟩ =>
    rw [GatherDims.offCoord_eq_zero _ _ _ (fun h => ((GatherDims.mem_sKept _ _).mp h).1 (show (1 : Fin 3) ∈ ([0, 1] : List (Fin 3)) by decide)), Nat.add_zero]
    show min (idx (gd.siIdx (ix2 b c) ⟨1, _⟩)).toInt.toNat 4095 = _
    rw [h1]
  | ⟨2, _⟩ => exact Nat.zero_add _

/-- Two columns joined: the first column's word of row `b`. -/
theorem pair_left (p q : IVec S16x1 32) (b : Fin 16) :
    concatenate S16x2 1 [⟨S16x1, p⟩, ⟨S16x1, q⟩] concatenates_S16x1_S16x1_S16x2_d1 (ix2 b 0) = p (ix2 b 0) :=
  concatenate_pair_apply_left (t := S16x2) 1 p q concatenates_S16x1_S16x1_S16x2_d1 (ix2 b 0) rfl (ix2 b 0) fun a => by
    match a with
    | ⟨0, _⟩ => rfl
    | ⟨1, _⟩ => rfl

/-- Two columns joined: the second column's word of row `b`. -/
theorem pair_right (p q : IVec S16x1 32) (b : Fin 16) :
    concatenate S16x2 1 [⟨S16x1, p⟩, ⟨S16x1, q⟩] concatenates_S16x1_S16x1_S16x2_d1 (ix2 b 1) = q (ix2 b 0) :=
  concatenate_pair_apply_right (t := S16x2) 1 p q concatenates_S16x1_S16x1_S16x2_d1 (ix2 b 1) rfl rfl (ix2 b 0) (fun a h => by
    match a with
    | ⟨0, _⟩ => rfl
    | ⟨1, _⟩ => exact absurd rfl h) rfl

/-- An array of sixteen words as a column, at row `b`. -/
theorem column_apply (v : IVec S16 32) (b : Fin 16) : broadcastInDim S16x1 ![0] bcast_S16_S16x1_0 v (ix2 b 0) = v (ix1 b) :=
  congrArg v (funext fun a => by
    match a with
    | ⟨0, _⟩ => rfl)

/-- jax's reading of an index word that may be negative: `v + n` when `v < 0`, else `v`. A word below 2³¹ is read as it is. -/
theorem wrap_word (v n : BitVec 32) (h : v.toNat < 2 ^ 31) :
    (if IntOp.cmpi .slt v 0#32 = 1#1 then IntOp.addi v n else v) = v := by
  refine if_neg ?_
  have hb : ∀ p : Bool, BitVec.ofBool p = 1#1 ↔ p = true := by decide
  simp only [IntOp.cmpi, hb, BitVec.slt_eq_decide, decide_eq_true_eq, BitVec.toInt_eq_toNat_cond, BitVec.toNat_ofNat,
    Nat.reducePow, Nat.reduceMod]
  omega

/-- A word below 2³¹, read signed, is its value. -/
theorem toInt_word (v : BitVec 32) (h : v.toNat < 2 ^ 31) : v.toInt.toNat = v.toNat := by
  rw [BitVec.toInt_eq_toNat_cond]; simp only [Nat.reducePow]; omega

/-- The row's sum less one. -/
theorem pred_word (s : BitVec 32) (h : 1 ≤ s.toNat) : (IntOp.subi s 1#32).toNat = s.toNat - 1 := by
  show (s - 1#32).toNat = _
  have := s.isLt
  rw [BitVec.toNat_sub]; simp only [BitVec.toNat_ofNat, Nat.reducePow, Nat.reduceMod]; omega

/-- The pairs of indices the reference gathers at: the sequence's number, and the position one below
    the sequence's word of `r`. -/
def pairsOf (r : IVec S16 32) : IVec S16x2 32 :=
  concatenate S16x2 1 [⟨S16x1, (broadcastInDim S16x1 ![0] bcast_S16_S16x1_0 (select (cmpi .slt (iotaInDim S16 32 0) (broadcastInDim S16 ![] bcast_S_S16 (constantI S_ 32 0#32))) (addi (iotaInDim S16 32 0) (broadcastInDim S16 ![] bcast_S_S16 (constantI S_ 32 16#32))) (iotaInDim S16 32 0)))⟩, ⟨S16x1, (broadcastInDim S16x1 ![0] bcast_S16_S16x1_0 (select (cmpi .slt (subi r (broadcastInDim S16 ![] bcast_S_S16 (constantI S_ 32 1#32))) (broadcastInDim S16 ![] bcast_S_S16 (constantI S_ 32 0#32))) (addi (subi r (broadcastInDim S16 ![] bcast_S_S16 (constantI S_ 32 1#32))) (broadcastInDim S16 ![] bcast_S_S16 (constantI S_ 32 4096#32))) (subi r (broadcastInDim S16 ![] bcast_S_S16 (constantI S_ 32 1#32)))))⟩] concatenates_S16x1_S16x1_S16x2_d1

/-- The same, `r` being the mask's row sums. -/
abbrev pairs (k : IVec S16x4096 32) : IVec S16x2 32 :=
  pairsOf (Host.reduce IntOp.addi k (constantI S_ 32 0#32) reducesTo_S16x4096_S16_d1 h_S_)

/-- A pair's first word is the sequence's number. -/
theorem pairsOf_left (r : IVec S16 32) (b : Fin 16) : pairsOf r (ix2 b 0) = BitVec.ofNat 32 b.val := by
  have hb : (BitVec.ofNat 32 b.val).toNat = b.val := by
    rw [BitVec.toNat_ofNat]; exact Nat.mod_eq_of_lt (by omega)
  exact ((pair_left _ _ b).trans (column_apply _ b)).trans (wrap_word (BitVec.ofNat 32 b.val) 16#32 (by omega))

/-- A pair's second word is the word of `r` less one, where that is not negative. -/
theorem pairsOf_right (r : IVec S16 32) (b : Fin 16) (h : (IntOp.subi (r (ix1 b)) 1#32).toNat < 2 ^ 31) :
    pairsOf r (ix2 b 1) = IntOp.subi (r (ix1 b)) 1#32 :=
  ((pair_right _ _ b).trans (column_apply _ b)).trans (wrap_word (IntOp.subi (r (ix1 b)) 1#32) 4096#32 h)

/-- A pair's second word is the row's sum less one, where the sum is from 1 to 4096. -/
theorem pairs_right (k : IVec S16x4096 32) (b : Fin 16) (h1 : 1 ≤ (∑ i : Fin 4096, k (ix2 b i)).toNat)
    (h2 : (∑ i : Fin 4096, k (ix2 b i)).toNat ≤ 4096) : pairs k (ix2 b 1) = IntOp.subi (∑ i : Fin 4096, k (ix2 b i)) 1#32 := by
  have e := RowSums.reduce_row k reducesTo_S16x4096_S16_d1 h_S_ (ix1 b)
  have e1 : (IntOp.subi (∑ i : Fin 4096, k (ix2 b i)) 1#32).toNat < 2 ^ 31 :=
    lt_of_eq_of_lt (pred_word _ h1) (by omega)
  have e2 := pairsOf_right (Host.reduce IntOp.addi k (constantI S_ 32 0#32) reducesTo_S16x4096_S16_d1 h_S_) b
  rw [e] at e2
  exact e2 e1

/-- Indices with equal first and equal second coordinates. -/
theorem ix3_congr {a a' : Fin 16} {b b' : Fin 4096} {c : Fin 1024} (ha : a = a') (hb : b = b') :
    (ix3 a b c : S16x4096x1024.Idx) = ix3 a' b' c := by rw [ha, hb]

/-- The reference's result, of `x` and the mask. -/
def ref (x : S16x4096x1024.Idx → α) (k : IVec S16x4096 32) : S16x1024.Idx → α := Host.gather gd x (pairs k)

/-- Where a mask's row `b` sums to 1 … 4096, the reference's result at `(b, c)` is `x` at `(b, rowSum − 1, c)`. -/
theorem ref_apply (x : S16x4096x1024.Idx → α) (k : IVec S16x4096 32) (b : Fin 16) (c : Fin 1024)
    (h1 : 1 ≤ (∑ i : Fin 4096, k (ix2 b i)).toNat) (h2 : (∑ i : Fin 4096, k (ix2 b i)).toNat ≤ 4096) :
    ref x k (ix2 b c) = x (ix3 b ⟨(∑ i : Fin 4096, k (ix2 b i)).toNat - 1, by omega⟩ c) := by
  have e1 := pred_word _ h1
  have hb : (BitVec.ofNat 32 b.val).toNat = b.val := by
    rw [BitVec.toNat_ofNat]; exact Nat.mod_eq_of_lt (by omega)
  refine (gather_row x (pairs k) b c).trans (congrArg x (ix3_congr (Fin.ext ?_) (Fin.ext ?_)))
  · show min (pairsOf _ (ix2 b 0)).toInt.toNat 15 = b.val
    rw [pairsOf_left _ b, toInt_word _ (by omega), hb]
    exact Nat.min_eq_left (by omega)
  · show min (pairs k (ix2 b 1)).toInt.toNat 4095 = (∑ i : Fin 4096, k (ix2 b i)).toNat - 1
    rw [pairs_right k b h1 h2, toInt_word _ (by omega), e1]
    exact Nat.min_eq_left (by omega)

end Cert.Proof.Reference

end
-- ==== Proof.Equation.lean ====
/-
  The equation. What the kernel leaves in the result and what the reference computes are one array, where the mask's rows
  sum to 1 … 4096: row `b` of the kernel's result is row `4096 b + rowSum − 1` of the flat table, which is row
  `(b, rowSum − 1)` of `x`.
-/
module

public import proofs.«01_k».proof.Proof.Launch
public import proofs.«01_k».proof.Proof.Reference

@[expose] public section

noncomputable section

namespace Cert.Proof.Equation

open Cert.KernelIdeal Cert.KernelIdeal.Gen
open Cert.Proof.Launch
open Idealize.ShloMosaic Idealize.SL.Sem
open Idealize.ShloMosaic.ValueIdx (ix1 ix2 ix3)

variable {F : FTy → Type} (m : (ℓ : Loc nD τ sig) → Buf (Elt F) ℓ)

/-- The flat table's row `4096 b + p` is row `(b, p)` of `x`. -/
theorem flat_apply (d : Dev nD) (r : Fin 65536) (b : Fin 16) (p : Fin 4096) (c : Fin 1024) (h : r.val = b.val * 4096 + p.val) :
    (flat m d : S65536x1024.Idx → Elt F .f32) (ix2 r c) = (m (xLoc d) : S16x4096x1024.Idx → Elt F .f32) (ix3 b p c) := by
  refine shapeCast_apply (s := S16x4096x1024) (t := S65536x1024) (m (xLoc d) : S16x4096x1024.Idx → Elt F .f32) _ (ix2 r c) (ix3 b p c) ?_
  rw [Shape.rowMajor_val_two, Shape.rowMajor_val_three]
  show (b.val * 4096 + p.val) * 1024 + c.val = r.val * 1024 + c.val
  rw [h]

/-- The kernel's result at `(b, c)` is `x` at `(b, rowSum − 1, c)`. -/
theorem outVal_apply (h : RowsOK m) (d : Dev nD) (b : Fin 16) (c : Fin 1024) :
    (outVal m d : S16x1024.Idx → Elt F .f32) (ix2 b c)
      = (m (xLoc d) : S16x4096x1024.Idx → Elt F .f32) (ix3 b ⟨(rowSum m d b).toNat - 1, by have := h d b; omega⟩ c) := by
  have hb := h d b
  have hlt := b.isLt
  refine flat_apply m d (Fin.ofNat 65536 (rowOf m d b)) b ⟨(rowSum m d b).toNat - 1, by omega⟩ c ?_
  show (b.val * 4096 + (rowSum m d b).toNat - 1) % 65536 = b.val * 4096 + ((rowSum m d b).toNat - 1)
  omega

/-- The kernel's result is the reference's. -/
theorem outVal_eq (h : RowsOK m) (d : Dev nD) :
    (outVal m d : S16x1024.Idx → Elt F .f32)
      = Reference.ref (m (xLoc d) : S16x4096x1024.Idx → Elt F .f32) (m (mLoc d) : S16x4096.Idx → BitVec 32) := by
  funext j
  have hj : j = ix2 (j 0) (j 1) := by
    funext a
    match a with
    | ⟨0, _⟩ => rfl
    | ⟨1, _⟩ => rfl
  rw [hj]
  have hb := h d (j 0)
  exact (outVal_apply m h d (j 0) (j 1)).trans (Reference.ref_apply _ _ (j 0) (j 1) hb.1 hb.2).symm

/-- The precondition gives what the kernel's run asks of the mask. -/
theorem rowsOK_of_pre [FloatOps F]
    (h : ∀ d : Dev nD, Cert.Pre_row_holds_token.fn (F := F) (m (xLoc d)) (m (mLoc d)) = fun _ => 1#1) : RowsOK m :=
  fun d w => RowSums.rows_of_pre (F := F) (m (xLoc d)) (m (mLoc d)) (h d) w

end Cert.Proof.Equation

end
-- ==== Proof.lean ====
/-
  The certificate. One run of the program, over any float values (Proof/Launch.lean), gives the frames of the kernel and of
  its ideal reading; the reference's own run (generated) gives the reference's; and the two runs' results are one array
  (Proof/Equation.lean).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_row_holds_token
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The kernel terminates without a fault, leaves `x` and the mask unchanged, and every semaphore at zero. -/
theorem frame_kernel : Cert.quiescent_Kernel := fun m ρ hpre =>
  (θ_run Cert.KernelIdeal.defs _ _).mono (fun _ h => ⟨fun c => (h.1 c).2, h.2⟩)
    (Launch.run_main (F := Bits) m ρ (Equation.rowsOK_of_pre m hpre))

/-- The same of the kernel read over the extended reals. -/
theorem frame_ideal : Cert.quiescent_KernelIdeal := fun m ρ hpre =>
  (θ_run Cert.KernelIdeal.defs _ _).mono (fun _ h => ⟨fun c => (h.1 c).2, h.2⟩)
    (Launch.run_main (F := Ideal) m ρ (Equation.rowsOK_of_pre m hpre))

/-- The reference terminates without a fault and leaves its arguments unchanged; it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The kernel and the reference, from the same arguments that meet the precondition, end with the same result. -/
theorem same : Cert.algebraic_KernelIdeal_ReferenceIdeal := fun m ρ m' ρ' hpre hagree => by
  have hok := Equation.rowsOK_of_pre m hpre
  refine ⟨fun c => Launch.outVal m c, ?_, ?_⟩
  · exact (θ_run Cert.KernelIdeal.defs _ _).mono (fun _ h => h.1) (Launch.run_main (F := Ideal) m ρ hok)
  · refine (θ_run Cert.ReferenceIdeal.defs _ _).mono (fun r h c => ⟨(h c).1.trans ?_, (h c).2⟩)
      (Cert.ReferenceIdeal.Value.run (F := Ideal) m' ρ')
    rw [(hagree c).1, (hagree c).2]
    exact (Equation.outVal_eq m hok c).symm

/-- Everything the certificate claims. -/
theorem claim : Cert.Claim :=
  ⟨Cert.Kernel.Gen.facts, Cert.KernelIdeal.Gen.facts, Cert.ReferenceIdeal.Gen.facts, Cert.Pre_row_holds_token.Gen.facts,
    frame_kernel, frame_ideal, frame_reference, fun m ρ _ => frame_reference m ρ trivial, trivial, same⟩

end Cert.Proof

end
